-- ==== Defs.lean ====
def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsRefIdeal [hPre_tables : Cert.Pre_tables.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8)
      ∧ r.2.mem ((c.tc : Thread Cert.Conv.nD Cert.Conv.τ).loc Cert.Conv.main_arg9) = m ((c.tc : Thread Cert.Conv.nD Cert.Conv.τ).loc Cert.Conv.main_arg9)
      ∧ r.2.mem ((c.tc : Thread Cert.Conv.nD Cert.Conv.τ).loc Cert.Conv.main_arg10) = m ((c.tc : Thread Cert.Conv.nD Cert.Conv.τ).loc Cert.Conv.main_arg10)
      ∧ r.2.mem ((c.tc : Thread Cert.Conv.nD Cert.Conv.τ).loc Cert.Conv.main_arg11) = m ((c.tc : Thread Cert.Conv.nD Cert.Conv.τ).loc Cert.Conv.main_arg11))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
      ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9)
      ∧ r.2.mem ((c.tc : Thread Cert.ConvIdeal.nD Cert.ConvIdeal.τ).loc Cert.ConvIdeal.main_arg10) = m ((c.tc : Thread Cert.ConvIdeal.nD Cert.ConvIdeal.τ).loc Cert.ConvIdeal.main_arg10)
      ∧ r.2.mem ((c.tc : Thread Cert.ConvIdeal.nD Cert.ConvIdeal.τ).loc Cert.ConvIdeal.main_arg11) = m ((c.tc : Thread Cert.ConvIdeal.nD Cert.ConvIdeal.τ).loc Cert.ConvIdeal.main_arg11))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8)
      ∧ r.2.mem ((c.tc : Thread Cert.ConvRefIdeal.nD Cert.ConvRefIdeal.τ).loc Cert.ConvRefIdeal.main_arg9) = m ((c.tc : Thread Cert.ConvRefIdeal.nD Cert.ConvRefIdeal.τ).loc Cert.ConvRefIdeal.main_arg9)
      ∧ r.2.mem ((c.tc : Thread Cert.ConvRefIdeal.nD Cert.ConvRefIdeal.τ).loc Cert.ConvRefIdeal.main_arg10) = m ((c.tc : Thread Cert.ConvRefIdeal.nD Cert.ConvRefIdeal.τ).loc Cert.ConvRefIdeal.main_arg10)
      ∧ r.2.mem ((c.tc : Thread Cert.ConvRefIdeal.nD Cert.ConvRefIdeal.τ).loc Cert.ConvRefIdeal.main_arg11) = m ((c.tc : Thread Cert.ConvRefIdeal.nD Cert.ConvRefIdeal.τ).loc Cert.ConvRefIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsRefIdeal [hExpertsRefIdeal : Cert.ExpertsRefIdeal.Facts] [hPre_tables : Cert.Pre_tables.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v21) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)
      ∧ m' ((c.tc : Thread Cert.ConvRefIdeal.nD Cert.ConvRefIdeal.τ).loc Cert.ConvRefIdeal.main_arg9) = m ((c.tc : Thread Cert.ConvIdeal.nD Cert.ConvIdeal.τ).loc Cert.ConvIdeal.main_arg9)
      ∧ m' ((c.tc : Thread Cert.ConvRefIdeal.nD Cert.ConvRefIdeal.τ).loc Cert.ConvRefIdeal.main_arg10) = m ((c.tc : Thread Cert.ConvIdeal.nD Cert.ConvIdeal.τ).loc Cert.ConvIdeal.main_arg10)
      ∧ m' ((c.tc : Thread Cert.ConvRefIdeal.nD Cert.ConvRefIdeal.τ).loc Cert.ConvRefIdeal.main_arg11) = m ((c.tc : Thread Cert.ConvIdeal.nD Cert.ConvIdeal.τ).loc Cert.ConvIdeal.main_arg11)) →
    ∃ (v0 : (c : Dev Cert.ConvIdeal.nD) → Buf (Elt Ideal) ((c.tc : Thread Cert.ConvIdeal.nD Cert.ConvIdeal.τ).loc Cert.ConvIdeal.main_v18_0)) (v1 : (c : Dev Cert.ConvIdeal.nD) → Buf (Elt Ideal) ((c.tc : Thread Cert.ConvIdeal.nD Cert.ConvIdeal.τ).loc Cert.ConvIdeal.main_v18_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v18_0) = v0 c
          ∧ r.2.mem ((c.tc : Thread Cert.ConvIdeal.nD Cert.ConvIdeal.τ).loc Cert.ConvIdeal.main_v18_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
          ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9)
          ∧ r.2.mem ((c.tc : Thread Cert.ConvIdeal.nD Cert.ConvIdeal.τ).loc Cert.ConvIdeal.main_arg10) = m ((c.tc : Thread Cert.ConvIdeal.nD Cert.ConvIdeal.τ).loc Cert.ConvIdeal.main_arg10)
          ∧ r.2.mem ((c.tc : Thread Cert.ConvIdeal.nD Cert.ConvIdeal.τ).loc Cert.ConvIdeal.main_arg11) = m ((c.tc : Thread Cert.ConvIdeal.nD Cert.ConvIdeal.τ).loc Cert.ConvIdeal.main_arg11))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v95) = v0 c
          ∧ r.2.mem ((c.tc : Thread Cert.ConvRefIdeal.nD Cert.ConvRefIdeal.τ).loc Cert.ConvRefIdeal.main_v96) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8)
          ∧ r.2.mem ((c.tc : Thread Cert.ConvRefIdeal.nD Cert.ConvRefIdeal.τ).loc Cert.ConvRefIdeal.main_arg9) = m' ((c.tc : Thread Cert.ConvRefIdeal.nD Cert.ConvRefIdeal.τ).loc Cert.ConvRefIdeal.main_arg9)
          ∧ r.2.mem ((c.tc : Thread Cert.ConvRefIdeal.nD Cert.ConvRefIdeal.τ).loc Cert.ConvRefIdeal.main_arg10) = m' ((c.tc : Thread Cert.ConvRefIdeal.nD Cert.ConvRefIdeal.τ).loc Cert.ConvRefIdeal.main_arg10)
          ∧ r.2.mem ((c.tc : Thread Cert.ConvRefIdeal.nD Cert.ConvRefIdeal.τ).loc Cert.ConvRefIdeal.main_arg11) = m' ((c.tc : Thread Cert.ConvRefIdeal.nD Cert.ConvRefIdeal.τ).loc Cert.ConvRefIdeal.main_arg11))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v9_0)) (v1 : (c : Dev Cert.ProjIdeal.nD) → Buf (Elt Ideal) ((c.tc : Thread Cert.ProjIdeal.nD Cert.ProjIdeal.τ).loc Cert.ProjIdeal.main_v9_1)) (v2 : (c : Dev Cert.ProjIdeal.nD) → Buf (Elt Ideal) ((c.tc : Thread Cert.ProjIdeal.nD Cert.ProjIdeal.τ).loc Cert.ProjIdeal.main_v9_2)) (v3 : (c : Dev Cert.ProjIdeal.nD) → Buf (Elt Ideal) ((c.tc : Thread Cert.ProjIdeal.nD Cert.ProjIdeal.τ).loc Cert.ProjIdeal.main_v9_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9_0) = v0 c
          ∧ r.2.mem ((c.tc : Thread Cert.ProjIdeal.nD Cert.ProjIdeal.τ).loc Cert.ProjIdeal.main_v9_1) = v1 c
          ∧ r.2.mem ((c.tc : Thread Cert.ProjIdeal.nD Cert.ProjIdeal.τ).loc Cert.ProjIdeal.main_v9_2) = v2 c
          ∧ r.2.mem ((c.tc : Thread Cert.ProjIdeal.nD Cert.ProjIdeal.τ).loc Cert.ProjIdeal.main_v9_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v36) = v0 c
          ∧ r.2.mem ((c.tc : Thread Cert.ProjRefIdeal.nD Cert.ProjRefIdeal.τ).loc Cert.ProjRefIdeal.main_v38) = v1 c
          ∧ r.2.mem ((c.tc : Thread Cert.ProjRefIdeal.nD Cert.ProjRefIdeal.τ).loc Cert.ProjRefIdeal.main_v40) = v2 c
          ∧ r.2.mem ((c.tc : Thread Cert.ProjRefIdeal.nD Cert.ProjRefIdeal.τ).loc Cert.ProjRefIdeal.main_v42) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v15_0)) (v1 : (c : Dev Cert.OutIdeal.nD) → Buf (Elt Ideal) ((c.tc : Thread Cert.OutIdeal.nD Cert.OutIdeal.τ).loc Cert.OutIdeal.main_v15_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v15_0) = v0 c
          ∧ r.2.mem ((c.tc : Thread Cert.OutIdeal.nD Cert.OutIdeal.τ).loc Cert.OutIdeal.main_v15_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v35) = v0 c
          ∧ r.2.mem ((c.tc : Thread Cert.OutRefIdeal.nD Cert.OutRefIdeal.τ).loc Cert.OutRefIdeal.main_v36) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Experts_ExpertsIdeal : Prop :=
  True

def algebraic_ExpertsIdeal_ExpertsRefIdeal [hExpertsIdeal : Cert.ExpertsIdeal.Facts] [hExpertsRefIdeal : Cert.ExpertsRefIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v7)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v7) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v64) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v6)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v6) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hFinal : Cert.Final.Facts) (hFinalIdeal : Cert.FinalIdeal.Facts) (hFinalRefIdeal : Cert.FinalRefIdeal.Facts) (hConv : Cert.Conv.Facts) (hConvIdeal : Cert.ConvIdeal.Facts) (hConvRefIdeal : Cert.ConvRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hExperts : Cert.Experts.Facts) (hExpertsIdeal : Cert.ExpertsIdeal.Facts) (hExpertsRefIdeal : Cert.ExpertsRefIdeal.Facts) (hAda : Cert.Ada.Facts) (hAdaIdeal : Cert.AdaIdeal.Facts) (hAdaRefIdeal : Cert.AdaRefIdeal.Facts) (hPre_tables : Cert.Pre_tables.Facts),
    quiescent_Final (hFinal := hFinal)
    ∧ quiescent_FinalIdeal (hFinalIdeal := hFinalIdeal)
    ∧ quiescent_FinalRefIdeal (hFinalRefIdeal := hFinalRefIdeal)
    ∧ quiescent_Conv (hConv := hConv)
    ∧ quiescent_ConvIdeal (hConvIdeal := hConvIdeal)
    ∧ quiescent_ConvRefIdeal (hConvRefIdeal := hConvRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Experts (hExperts := hExperts) (hPre_tables := hPre_tables)
    ∧ quiescent_ExpertsIdeal (hExpertsIdeal := hExpertsIdeal) (hPre_tables := hPre_tables)
    ∧ quiescent_ExpertsRefIdeal (hExpertsRefIdeal := hExpertsRefIdeal) (hPre_tables := hPre_tables)
    ∧ quiescent_Ada (hAda := hAda)
    ∧ quiescent_AdaIdeal (hAdaIdeal := hAdaIdeal)
    ∧ quiescent_AdaRefIdeal (hAdaRefIdeal := hAdaRefIdeal)
    ∧ preserves_Final_FinalIdeal
    ∧ algebraic_FinalIdeal_FinalRefIdeal (hFinalIdeal := hFinalIdeal) (hFinalRefIdeal := hFinalRefIdeal)
    ∧ preserves_Conv_ConvIdeal
    ∧ algebraic_ConvIdeal_ConvRefIdeal (hConvIdeal := hConvIdeal) (hConvRefIdeal := hConvRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Experts_ExpertsIdeal
    ∧ algebraic_ExpertsIdeal_ExpertsRefIdeal (hExpertsIdeal := hExpertsIdeal) (hExpertsRefIdeal := hExpertsRefIdeal) (hPre_tables := hPre_tables)
    ∧ preserves_Ada_AdaIdeal
    ∧ algebraic_AdaIdeal_AdaRefIdeal (hAdaIdeal := hAdaIdeal) (hAdaRefIdeal := hAdaRefIdeal)
-- ==== Pre_tables.lean ====
abbrev S152 : Shape := ⟨1, ![152]⟩
abbrev S1 : Shape := ⟨1, ![1]⟩
abbrev S38912x1024 : Shape := ⟨2, ![38912, 1024]⟩
abbrev S16x1024x512 : Shape := ⟨3, ![16, 1024, 512]⟩
abbrev S16x512x1024 : Shape := ⟨3, ![16, 512, 1024]⟩
abbrev S1024x16 : Shape := ⟨2, ![1024, 16]⟩
abbrev S_ : Shape := ⟨0, ![]⟩

class Facts : Prop where
  bcast_S_S152 : S_.BroadcastsInDim S152 (![] : Fin 0 → Fin S152.rank)
  reducesTo_S152_S_d0 : S152.ReducesTo [0] S_
  h_S_ : 0 < S_.numel
  bcast_S_S1 : S_.BroadcastsInDim S1 (![] : Fin 0 → Fin S1.rank)
  reducesTo_S1_S_d0 : S1.ReducesTo [0] S_
  bcast_S_S38912x1024 : S_.BroadcastsInDim S38912x1024 (![] : Fin 0 → Fin S38912x1024.rank)
  reducesTo_S38912x1024_S_d0_1 : S38912x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg3 : FVec F S38912x1024 .f32) (main_arg7 : FVec F S1024x16 .f32) (main_v12 : IVec S_ 1) (main_v15 : IVec S_ 1) : IVec S_ 1 :=
  let main_v16 : IVec S_ 1 := andi main_v12 main_v15
  let main_v17 : FVec F S38912x1024 .f32 := Host.absf main_arg3
  let main_cst : FVec F S_ .f32 := constant S_ .f32 0x7F800000#32
  let main_v18 : FVec F S38912x1024 .f32 := broadcastInDim S38912x1024 ![] bcast_S_S38912x1024 main_cst
  let main_v19 : IVec S38912x1024 1 := cmpf .olt main_v17 main_v18
  let main_c_7 : IVec S_ 1 := constantI S_ 1 1#1
  let main_v20 : IVec S_ 1 := (fun x v => Host.reduce IntOp.andi x v reducesTo_S38912x1024_S_d0_1 h_S_) main_v19 main_c_7
  let main_v21 : IVec S_ 1 := andi main_v16 main_v20
  let main_v22 : FVec F S1024x16 .f32 := Host.absf main_arg7
  let main_cst_8 : FVec F S_ .f32 := constant S_ .f32 0x7F800000#32
  let main_v23 : FVec F S1024x16 .f32 := broadcastInDim S1024x16 ![] bcast_S_S1024x16 main_cst_8
  let main_v24 : IVec S1024x16 1 := cmpf .olt main_v22 main_v23
  let main_c_9 : IVec S_ 1 := constantI S_ 1 1#1
  let main_v25 : IVec S_ 1 := (fun x v => Host.reduce IntOp.andi x v reducesTo_S1024x16_S_d0_1 h_S_) main_v24 main_c_9
  let main_v26 : IVec S_ 1 := andi main_v21 main_v25
  main_v26

def fn {F : FTy → Type} [FloatOps F] (main_arg0 : IVec S152 32) (main_arg1 : IVec S152 32) (main_arg2 : IVec S1 32) (main_arg3 : FVec F S38912x1024 .f32) (main_arg4 : FVec F S16x1024x512 .f32) (main_arg5 : FVec F S16x1024x512 .f32) (main_arg6 : FVec F S16x512x1024 .f32) (main_arg7 : FVec F S1024x16 .f32) : IVec S_ 1 :=
  let main_c : IVec S_ 32 := constantI S_ 32 0#32
  let main_v0 : IVec S152 32 := broadcastInDim S152 ![] bcast_S_S152 main_c
  let main_v1 : IVec S152 1 := cmpi .sge main_arg0 main_v0
  let main_c_0 : IVec S_ 32 := constantI S_ 32 16#32
  let main_v2 : IVec S152 32 := broadcastInDim S152 ![] bcast_S_S152 main_c_0
  let main_v3 : IVec S152 1 := cmpi .slt main_arg0 main_v2
  let main_v4 : IVec S152 1 := andi main_v1 main_v3
  let main_c_1 : IVec S_ 1 := constantI S_ 1 1#1
  let main_v5 : IVec S_ 1 := (fun x v => Host.reduce IntOp.andi x v reducesTo_S152_S_d0 h_S_) main_v4 main_c_1
  let main_c_2 : IVec S_ 32 := constantI S_ 32 0#32
  let main_v6 : IVec S152 32 := broadcastInDim S152 ![] bcast_S_S152 main_c_2
  let main_v7 : IVec S152 1 := cmpi .sge main_arg1 main_v6
  let main_c_3 : IVec S_ 32 := constantI S_ 32 16#32
  let main_v8 : IVec S152 32 := broadcastInDim S152 ![] bcast_S_S152 main_c_3
  let main_v9 : IVec S152 1 := cmpi .slt main_arg1 main_v8
  let main_v10 : IVec S152 1 := andi main_v7 main_v9
  let main_c_4 : IVec S_ 1 := constantI S_ 1 1#1
  let main_v11 : IVec S_ 1 := (fun x v => Host.reduce IntOp.andi x v reducesTo_S152_S_d0 h_S_) main_v10 main_c_4
  let main_v12 : IVec S_ 1 := andi main_v5 main_v11
  let main_c_5 : IVec S_ 32 := constantI S_ 32 1#32
  let main_v13 : IVec S1 32 := broadcastInDim S1 ![] bcast_S_S1 main_c_5
  let main_v14 : IVec S1 1 := cmpi .sge main_arg2 main_v13
  let main_c_6 : IVec S_ 1 := constantI S_ 1 1#1
  let main_v15 : IVec S_ 1 := (fun x v => Host.reduce IntOp.andi x v reducesTo_S1_S_d0 h_S_) main_v14 main_c_6
  fn_part1 (F := F) main_arg3 main_arg7 main_v12 main_v15
-- ==== Final.lean ====
abbrev S32768x1024 : Shape := ⟨2, ![32768, 1024]⟩
abbrev S4x6x1024 : Shape := ⟨3, ![4, 6, 1024]⟩
abbrev S1024 : Shape := ⟨1, ![1024]⟩
abbrev S1x1024 : Shape := ⟨2, ![1, 1024]⟩
abbrev S1024x1024 : Shape := ⟨2, ![1024, 1024]⟩
abbrev S1x6x1024 : Shape := ⟨3, ![1, 6, 1024]⟩
abbrev S6x1024 : Shape := ⟨2, ![6, 1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S4x6x1024, .f32⟩
  | .hbm, ⟨3, _⟩ => ⟨S1024, .f32⟩
  | .hbm, ⟨4, _⟩ => ⟨S1x1024, .f32⟩
  | .hbm, ⟨5, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalRefIdeal.lean ====
abbrev S32768x1024 : Shape := ⟨2, ![32768, 1024]⟩
abbrev S4x6x1024 : Shape := ⟨3, ![4, 6, 1024]⟩
abbrev S1024 : Shape := ⟨1, ![1024]⟩
abbrev S4x8192x1024 : Shape := ⟨3, ![4, 8192, 1024]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S4x6x1024, .f32⟩
  | .hbm, ⟨3, _⟩ => ⟨S1024, .f32⟩
  | .hbm, ⟨4, _⟩ => ⟨S4x8192x1024, .f32⟩
  | .hbm, ⟨5, _⟩ => ⟨S4x1x1024, .f32⟩
  | .hbm, ⟨6, _⟩ => ⟨S4x1024, .f32⟩
  | .hbm, ⟨7, _⟩ => ⟨S4x1x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Conv.lean ====
abbrev S32768x1024 : Shape := ⟨2, ![32768, 1024]⟩
abbrev S4x6x1024 : Shape := ⟨3, ![4, 6, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1024x16 : Shape := ⟨2, ![1024, 16]⟩
abbrev S16 : Shape := ⟨1, ![16]⟩
abbrev S_ : Shape := ⟨0, ![]⟩
abbrev S1024x128 : Shape := ⟨2, ![1024, 128]⟩
abbrev S1 : Shape := ⟨1, ![1]⟩
abbrev S16x1 : Shape := ⟨2, ![16, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S128x1x256 : Shape := ⟨3, ![128, 1, 256]⟩
abbrev S32x128 : Shape := ⟨2, ![32, 128]⟩
abbrev S256x1024 : Shape := ⟨2, ![256, 1024]⟩
abbrev S1x6x1024 : Shape := ⟨3, ![1, 6, 1024]⟩
abbrev S1x1x256 : Shape := ⟨3, ![1, 1, 256]⟩
abbrev S8x1024 : Shape := ⟨2, ![8, 1024]⟩
abbrev S6x1024 : Shape := ⟨2, ![6, 1024]⟩
abbrev S256x128 : Shape := ⟨2, ![256, 128]⟩
abbrev S128x256 : Shape := ⟨2, ![128, 256]⟩
abbrev S16x256 : Shape := ⟨2, ![16, 256]⟩
abbrev S32x256 : Shape := ⟨2, ![32, 256]⟩
abbrev S32x1 : Shape := ⟨2, ![32, 1]⟩
abbrev S32 : Shape := ⟨1, ![32]⟩

abbrev nBuf : Space → Nat
  | .hbm => 37
  | .vmem => 28
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S4x6x1024, .f32⟩
  | .hbm, ⟨3, _⟩ => ⟨S4x6x1024, .f32⟩
  | .hbm, ⟨4, _⟩ => ⟨S1024, .f32⟩
  | .hbm, ⟨5, _⟩ => ⟨S1024x3072, .f32⟩
  | .hbm, ⟨6, _⟩ => ⟨S3x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x16, .f32⟩
  | .hbm, ⟨11, _⟩ => ⟨S16, .f32⟩
  | .hbm, ⟨12, _⟩ => ⟨S_, .bf16⟩
  | .hbm, ⟨13, _⟩ => ⟨S1024x128, .bf16⟩
  | .hbm, ⟨14, _⟩ => ⟨S1024x16, .bf16⟩
  | .hbm, ⟨15, _⟩ => ⟨S_, .i32⟩
  | .hbm, ⟨16, _⟩ => ⟨S1, .i32⟩
  | .hbm, ⟨17, _⟩ => ⟨S1024x128, .bf16⟩
  | .hbm, ⟨18, _⟩ => ⟨S16x1, .f32⟩
  | .hbm, ⟨19, _⟩ => ⟨S256, .i32⟩
  | .hbm, ⟨20, _⟩ => ⟨S256x1, .i32⟩
  | .hbm, ⟨21, _⟩ => ⟨S256, .i32⟩
  | .hbm, ⟨22, _⟩ => ⟨S1x256, .i32⟩
  | .hbm, ⟨23, _⟩ => ⟨S256x256, .i32⟩
  | .hbm, ⟨24, _⟩ => ⟨S256x256, .i32⟩
  | .hbm, ⟨25, _⟩ => ⟨S256x256, .i1⟩
  | .hbm, ⟨26, _⟩ => ⟨S256x256, .bf16⟩
  | .hbm, ⟨27, _⟩ => ⟨S1x1024, .f32⟩
  | .hbm, ⟨28, _⟩ => ⟨S1024x3072, .bf16⟩
  | .hbm, ⟨29, _⟩ => ⟨S1x1024, .f32⟩
  | .hbm, ⟨30, _⟩ => ⟨S1024x1024, .bf16⟩
  | .hbm, ⟨31, _⟩ => ⟨S1x1024, .f32⟩
  | .hbm, ⟨32, _⟩ => ⟨S32768x1024, .f32⟩
  | .hbm, ⟨33, _⟩ => ⟨S32768x1024, .f32⟩
  | .hbm, ⟨34, _⟩ => ⟨S128x1x256, .i32⟩
  | .hbm, ⟨35, _⟩ => ⟨S128x1x256, .i32⟩
  | .hbm, ⟨36, _⟩ => ⟨S32x128, .i32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x3072, .bf16⟩
  | .local _ .vmem, ⟨10, _⟩ => ⟨S3x1024, .f32⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S1024x128, .bf16⟩
  | .local _ .vmem, ⟨15, _⟩ => ⟨S16x1, .f32⟩
  | .local _ .vmem, ⟨16, _⟩ => ⟨S256x256, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1x1x256, .i32⟩
  | .local _ .vmem, ⟨22, _⟩ => ⟨S1x1x256, .i32⟩
  | .local _ .vmem, ⟨23, _⟩ => ⟨S1x1x256, .i32⟩
  | .local _ .vmem, ⟨24, _⟩ => ⟨S1x1x256, .i32⟩
  | .local _ .vmem, ⟨25, _⟩ => ⟨S32x128, .i32⟩
  | .local _ .vmem, ⟨26, _⟩ => ⟨S32x128, .f32⟩
  | .local _ .vmem, ⟨27, _⟩ => ⟨S8x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v18_3 : Ref sig .tc := ⟨.hbm, 35, rfl⟩
abbrev main_v18_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x256 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x256 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S32x128 .i32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ConvRefIdeal.lean ====
abbrev S32768x1024 : Shape := ⟨2, ![32768, 1024]⟩
abbrev S4x6x1024 : Shape := ⟨3, ![4, 6, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1024x16 : Shape := ⟨2, ![1024, 16]⟩
abbrev S16 : Shape := ⟨1, ![16]⟩
abbrev S4x8192x1024 : Shape := ⟨3, ![4, 8192, 1024]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S4x8194x1024 : Shape := ⟨3, ![4, 8194, 1024]⟩
abbrev S1x1024 : Shape := ⟨2, ![1, 1024]⟩

abbrev nBuf : Space → Nat
  | .hbm => 119
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S4x6x1024, .f32⟩
  | .hbm, ⟨3, _⟩ => ⟨S4x6x1024, .f32⟩
  | .hbm, ⟨4, _⟩ => ⟨S1024, .f32⟩
  | .hbm, ⟨5, _⟩ => ⟨S1024x3072, .f32⟩
  | .hbm, ⟨6, _⟩ => ⟨S3x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x16, .f32⟩
  | .hbm, ⟨11, _⟩ => ⟨S16, .f32⟩
  | .hbm, ⟨12, _⟩ => ⟨S4x8192x1024, .f32⟩
  | .hbm, ⟨13, _⟩ => ⟨S4x1x1024, .f32⟩
  | .hbm, ⟨14, _⟩ => ⟨S4x1024, .f32⟩
  | .hbm, ⟨15, _⟩ => ⟨S4x1x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S4x8192x1, .f32⟩
  | .hbm, ⟨31, _⟩ => ⟨S4x8192x1024, .f32⟩
  | .hbm, ⟨32, _⟩ => ⟨S4x8192x1024, .f32⟩
  | .hbm, ⟨33, _⟩ => ⟨S1x1x1024, .f32⟩
  | .hbm, ⟨34, _⟩ => ⟨S4x8192x1024, .f32⟩
  | .hbm, ⟨35, _⟩ => ⟨S4x8192x1024, .f32⟩
  | .hbm, ⟨36, _⟩ => ⟨S4x1x1024, .f32⟩
  | .hbm, ⟨37, _⟩ => ⟨S4x1024, .f32⟩
  | .hbm, ⟨38, _⟩ => ⟨S4x1x1024, .f32⟩
  | .hbm, ⟨39, _⟩ => ⟨S4x1024, .f32⟩
  | .hbm, ⟨40, _⟩ => ⟨S4x1x1024, .f32⟩
  | .hbm, ⟨41, _⟩ => ⟨S_, .f32⟩
  | .hbm, ⟨42, _⟩ => ⟨S4x1x1024, .f32⟩
  | .hbm, ⟨43, _⟩ => ⟨S4x1x1024, .f32⟩
  | .hbm, ⟨44, _⟩ => ⟨S4x8192x1024, .f32⟩
  | .hbm, ⟨45, _⟩ => ⟨S4x8192x1024, .f32⟩
  | .hbm, ⟨46, _⟩ => ⟨S4x1x1024, .f32⟩
  | .hbm, ⟨47, _⟩ => ⟨S4x8192x1024, .f32⟩
  | .hbm, ⟨48, _⟩ => ⟨S4x8192x1024, .f32⟩
  | .hbm, ⟨49, _⟩ => ⟨S4x8192x3072, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S_, .i32⟩
  | .hbm, ⟨55, _⟩ => ⟨S_, .f32⟩
  | .hbm, ⟨56, _⟩ => ⟨S4x8194x1024, .f32⟩
  | .hbm, ⟨57, _⟩ => ⟨S4x8192x1024, .f32⟩
  | .hbm, ⟨58, _⟩ => ⟨S1x1024, .f32⟩
  | .hbm, ⟨59, _⟩ => ⟨S1024, .f32⟩
  | .hbm, ⟨60, _⟩ => ⟨S1x1x1024, .f32⟩
  | .hbm, ⟨61, _⟩ => ⟨S4x8192x1024, .f32⟩
  | .hbm, ⟨62, _⟩ => ⟨S4x8192x1024, .f32⟩
  | .hbm, ⟨63, _⟩ => ⟨S4x8192x1024, .f32⟩
  | .hbm, ⟨64, _⟩ => ⟨S1x1024, .f32⟩
  | .hbm, ⟨65, _⟩ => ⟨S1024, .f32⟩
  | .hbm, ⟨66, _⟩ => ⟨S1x1x1024, .f32⟩
  | .hbm, ⟨67, _⟩ => ⟨S4x8192x1024, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S1x1024, .f32⟩
  | .hbm, ⟨72, _⟩ => ⟨S1024, .f32⟩
  | .hbm, ⟨73, _⟩ => ⟨S1x1x1024, .f32⟩
  | .hbm, ⟨74, _⟩ => ⟨S4x8192x1024, .f32⟩
  | .hbm, ⟨75, _⟩ => ⟨S4x8192x1024, .f32⟩
  | .hbm, ⟨76, _⟩ => ⟨S4x8192x1024, .f32⟩
  | .hbm, ⟨77, _⟩ => ⟨S1x1x1024, .f32⟩
  | .hbm, ⟨78, _⟩ => ⟨S4x8192x1024, .f32⟩
  | .hbm, ⟨79, _⟩ => ⟨S4x8192x1024, .f32⟩
  | .hbm, ⟨80, _⟩ => ⟨S4x1x1024, .f32⟩
  | .hbm, ⟨81, _⟩ => ⟨S4x1024, .f32⟩
  | .hbm, ⟨82, _⟩ => ⟨S4x1x1024, .f32⟩
  | .hbm, ⟨83, _⟩ => ⟨S4x8192x1024, .f32⟩
  | .hbm, ⟨84, _⟩ => ⟨S4x8192x1024, .f32⟩
  | .hbm, ⟨85, _⟩ => ⟨S4x8192x1024, .f32⟩
  | .hbm, ⟨86, _⟩ => ⟨S4x8192x1024, .f32⟩
  | .hbm, ⟨87, _⟩ => ⟨S4x8192x1024, .f32⟩
  | .hbm, ⟨88, _⟩ => ⟨S4x8192x1024, .f32⟩
  | .hbm, ⟨89, _⟩ => ⟨S_, .f32⟩
  | .hbm, ⟨90, _⟩ => ⟨S4x8192, .f32⟩
  | .hbm, ⟨91, _⟩ => ⟨S4x8192x1, .f32⟩
  | .hbm, ⟨92, _⟩ => ⟨S_, .f32⟩
  | .hbm, ⟨93, _⟩ => ⟨S4x8192x1, .f32⟩
  | .hbm, ⟨94, _⟩ => ⟨S4x8192x1, .f32⟩
  | .hbm, ⟨95, _⟩ => ⟨S_, .f32⟩
  | .hbm, ⟨96, _⟩ => ⟨S4x8192x1, .f32⟩
  | .hbm, ⟨97, _⟩ => ⟨S4x8192x1, .f32⟩
  | .hbm, ⟨98, _⟩ => ⟨S4x8192x1, .f32⟩
  | .hbm, ⟨99, _⟩ => ⟨S4x8192x1024, .f32⟩
  | .hbm, ⟨100, _⟩ => ⟨S4x8192x1024, .f32⟩
  | .hbm, ⟨101, _⟩ => ⟨S1x1x1024, .f32⟩
  | .hbm, ⟨102, _⟩ => ⟨S4x8192x1024, .f32⟩
  | .hbm, ⟨103, _⟩ => ⟨S4x8192x1024, .f32⟩
  | .hbm, ⟨104, _⟩ => ⟨S4x1x1024, .f32⟩
  | .hbm, ⟨105, _⟩ => ⟨S4x1024, .f32⟩
  | .hbm, ⟨106, _⟩ => ⟨S4x1x1024, .f32⟩
  | .hbm, ⟨107, _⟩ => ⟨S4x1024, .f32⟩
  | .hbm, ⟨108, _⟩ => ⟨S4x1x1024, .f32⟩
  | .hbm, ⟨109, _⟩ => ⟨S_, .f32⟩
  | .hbm, ⟨110, _⟩ => ⟨S4x1x1024, .f32⟩
  | .hbm, ⟨111, _⟩ => ⟨S4x1x1024, .f32⟩
  | .hbm, ⟨112, _⟩ => ⟨S4x8192x1024, .f32⟩
  | .hbm, ⟨113, _⟩ => ⟨S4x8192x1024, .f32⟩
  | .hbm, ⟨114, _⟩ => ⟨S4x1x1024, .f32⟩
  | .hbm, ⟨115, _⟩ => ⟨S4x8192x1024, .f32⟩
  | .hbm, ⟨116, _⟩ => ⟨S4x8192x1024, .f32⟩
  | .hbm, ⟨117, _⟩ => ⟨S32768x1024, .f32⟩
  | .hbm, ⟨118, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c : Ref sig .tc := ⟨.hbm, 54, rfl⟩
abbrev main_call0_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_3 : Ref sig .tc := ⟨.hbm, 89, rfl⟩
abbrev main_v71 : Ref sig .tc := ⟨.hbm, 90, rfl⟩
abbrev main_v72 : Ref sig .tc := ⟨.hbm, 91, rfl⟩
abbrev main_cst_4 : Ref sig .tc := ⟨.hbm, 92, rfl⟩
abbrev main_v73 : Ref sig .tc := ⟨.hbm, 93, rfl⟩
abbrev main_v74 : Ref sig .tc := ⟨.hbm, 94, rfl⟩
abbrev main_cst_5 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_6 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩

abbrev nD : Nat := 1
abbrev τ : Topo := Topo.v7x

variable {F : FTy → Type} [FloatOps F]
-- ==== Proj.lean ====
abbrev S32768x1024 : Shape := ⟨2, ![32768, 1024]⟩
abbrev S4x6x1024 : Shape := ⟨3, ![4, 6, 1024]⟩
abbrev S1024 : Shape := ⟨1, ![1024]⟩
abbrev S1024x3080 : Shape := ⟨2, ![1024, 3080]⟩
abbrev S8 : Shape := ⟨1, ![8]⟩
abbrev S_ : Shape := ⟨0, ![]⟩
abbrev S1024x120 : Shape := ⟨2, ![1024, 120]⟩
abbrev S1024x3200 : Shape := ⟨2, ![1024, 3200]⟩
abbrev S1x128 : Shape := ⟨2, ![1, 128]⟩
abbrev S1 : Shape := ⟨1, ![1]⟩
abbrev S2 : Shape := ⟨1, ![2]⟩
abbrev S1x1024 : Shape := ⟨2, ![1, 1024]⟩
abbrev S32768x512 : Shape := ⟨2, ![32768, 512]⟩
abbrev S32768x8 : Shape := ⟨2, ![32768, 8]⟩
abbrev S8x32768 : Shape := ⟨2, ![8, 32768]⟩
abbrev S512x1024 : Shape := ⟨2, ![512, 1024]⟩
abbrev S1x6x1024 : Shape := ⟨3, ![1, 6, 1024]⟩
abbrev S512x512 : Shape := ⟨2, ![512, 512]⟩
abbrev S512x8 : Shape := ⟨2, ![512, 8]⟩
abbrev S8x512 : Shape := ⟨2, ![8, 512]⟩
abbrev S6x1024 : Shape := ⟨2, ![6, 1024]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩
abbrev S1024x128 : Shape := ⟨2, ![1024, 128]⟩
abbrev S512x128 : Shape := ⟨2, ![512, 128]⟩
abbrev S128x512 : Shape := ⟨2, ![128, 512]⟩

abbrev nBuf : Space → Nat
  | .hbm => 24
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S4x6x1024, .f32⟩
  | .hbm, ⟨2, _⟩ => ⟨S1024, .f32⟩
  | .hbm, ⟨3, _⟩ => ⟨S1024x3080, .f32⟩
  | .hbm, ⟨4, _⟩ => ⟨S8, .f32⟩
  | .hbm, ⟨5, _⟩ => ⟨S1024x3080, .bf16⟩
  | .hbm, ⟨6, _⟩ => ⟨S_, .bf16⟩
  | .hbm, ⟨7, _⟩ => ⟨S1024x120, .bf16⟩
  | .hbm, ⟨8, _⟩ => ⟨S1024x3200, .bf16⟩
  | .hbm, ⟨9, _⟩ => ⟨S_, .f32⟩
  | .hbm, ⟨10, _⟩ => ⟨S1x128, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S1x128, .f32⟩
  | .hbm, ⟨17, _⟩ => ⟨S1x1024, .f32⟩
  | .hbm, ⟨18, _⟩ => ⟨S32768x512, .bf16⟩
  | .hbm, ⟨19, _⟩ => ⟨S32768x512, .bf16⟩
  | .hbm, ⟨20, _⟩ => ⟨S32768x1024, .bf16⟩
  | .hbm, ⟨21, _⟩ => ⟨S32768x1024, .bf16⟩
  | .hbm, ⟨22, _⟩ => ⟨S32768x8, .f32⟩
  | .hbm, ⟨23, _⟩ => ⟨S8x32768, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3200, .bf16⟩
  | .local _ .vmem, ⟨6, _⟩ => ⟨S1x128, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x8, .f32⟩
  | .local _ .vmem, ⟨16, _⟩ => ⟨S512x8, .f32⟩
  | .local _ .vmem, ⟨17, _⟩ => ⟨S8x512, .f32⟩
  | .local _ .vmem, ⟨18, _⟩ => ⟨S8x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjRefIdeal.lean ====
abbrev S32768x1024 : Shape := ⟨2, ![32768, 1024]⟩
abbrev S4x6x1024 : Shape := ⟨3, ![4, 6, 1024]⟩
abbrev S1024 : Shape := ⟨1, ![1024]⟩
abbrev S1024x3080 : Shape := ⟨2, ![1024, 3080]⟩
abbrev S8 : Shape := ⟨1, ![8]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x1024 : Shape := ⟨2, ![4, 1024]⟩
abbrev S4x8192x3080 : Shape := ⟨3, ![4, 8192, 3080]⟩
abbrev S4x8192x512 : Shape := ⟨3, ![4, 8192, 512]⟩
abbrev S4x8192x4 : Shape := ⟨3, ![4, 8192, 4]⟩
abbrev S32768x512 : Shape := ⟨2, ![32768, 512]⟩

abbrev nBuf : Space → Nat
  | .hbm => 53
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x6x1024, .f32⟩
  | .hbm, ⟨2, _⟩ => ⟨S1024, .f32⟩
  | .hbm, ⟨3, _⟩ => ⟨S1024x3080, .f32⟩
  | .hbm, ⟨4, _⟩ => ⟨S8, .f32⟩
  | .hbm, ⟨5, _⟩ => ⟨S4x8192x1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x1x1024, .f32⟩
  | .hbm, ⟨23, _⟩ => ⟨S4x1024, .f32⟩
  | .hbm, ⟨24, _⟩ => ⟨S4x1x1024, .f32⟩
  | .hbm, ⟨25, _⟩ => ⟨S4x1024, .f32⟩
  | .hbm, ⟨26, _⟩ => ⟨S4x1x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x1x1024, .f32⟩
  | .hbm, ⟨33, _⟩ => ⟨S4x8192x1024, .f32⟩
  | .hbm, ⟨34, _⟩ => ⟨S4x8192x1024, .f32⟩
  | .hbm, ⟨35, _⟩ => ⟨S4x8192x3080, .f32⟩
  | .hbm, ⟨36, _⟩ => ⟨S4x8192x512, .f32⟩
  | .hbm, ⟨37, _⟩ => ⟨S4x8192x512, .f32⟩
  | .hbm, ⟨38, _⟩ => ⟨S4x8192x1024, .f32⟩
  | .hbm, ⟨39, _⟩ => ⟨S4x8192x1024, .f32⟩
  | .hbm, ⟨40, _⟩ => ⟨S4x8192x4, .f32⟩
  | .hbm, ⟨41, _⟩ => ⟨S4x8192x4, .f32⟩
  | .hbm, ⟨42, _⟩ => ⟨S_, .f32⟩
  | .hbm, ⟨43, _⟩ => ⟨S4x8192x512, .f32⟩
  | .hbm, ⟨44, _⟩ => ⟨S4x8192x512, .f32⟩
  | .hbm, ⟨45, _⟩ => ⟨S32768x512, .f32⟩
  | .hbm, ⟨46, _⟩ => ⟨S32768x512, .bf16⟩
  | .hbm, ⟨47, _⟩ => ⟨S32768x512, .f32⟩
  | .hbm, ⟨48, _⟩ => ⟨S32768x512, .bf16⟩
  | .hbm, ⟨49, _⟩ => ⟨S32768x1024, .f32⟩
  | .hbm, ⟨50, _⟩ => ⟨S32768x1024, .bf16⟩
  | .hbm, ⟨51, _⟩ => ⟨S32768x1024, .f32⟩
  | .hbm, ⟨52, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Out.lean ====
abbrev S32768x1024 : Shape := ⟨2, ![32768, 1024]⟩
abbrev S4x6x1024 : Shape := ⟨3, ![4, 6, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S_ : Shape := ⟨0, ![]⟩
abbrev S1024x128 : Shape := ⟨2, ![1024, 128]⟩
abbrev S1 : Shape := ⟨1, ![1]⟩
abbrev S16x1 : Shape := ⟨2, ![16, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S128x1x256 : Shape := ⟨3, ![128, 1, 256]⟩
abbrev S32x128 : Shape := ⟨2, ![32, 128]⟩
abbrev S256x1024 : Shape := ⟨2, ![256, 1024]⟩
abbrev S1x6x1024 : Shape := ⟨3, ![1, 6, 1024]⟩
abbrev S1x1x256 : Shape := ⟨3, ![1, 1, 256]⟩
abbrev S6x1024 : Shape := ⟨2, ![6, 1024]⟩
abbrev S256x128 : Shape := ⟨2, ![256, 128]⟩
abbrev S128x256 : Shape := ⟨2, ![128, 256]⟩
abbrev S16x256 : Shape := ⟨2, ![16, 256]⟩
abbrev S32x256 : Shape := ⟨2, ![32, 256]⟩
abbrev S32x1 : Shape := ⟨2, ![32, 1]⟩
abbrev S32 : Shape := ⟨1, ![32]⟩

abbrev nBuf : Space → Nat
  | .hbm => 29
  | .vmem => 21
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S4x6x1024, .f32⟩
  | .hbm, ⟨3, _⟩ => ⟨S1024x1024, .f32⟩
  | .hbm, ⟨4, _⟩ => ⟨S1024, .f32⟩
  | .hbm, ⟨5, _⟩ => ⟨S1024x16, .f32⟩
  | .hbm, ⟨6, _⟩ => ⟨S16, .f32⟩
  | .hbm, ⟨7, _⟩ => ⟨S_, .bf16⟩
  | .hbm, ⟨8, _⟩ => ⟨S1024x128, .bf16⟩
  | .hbm, ⟨9, _⟩ => ⟨S1024x16, .bf16⟩
  | .hbm, ⟨10, _⟩ => ⟨S_, .i32⟩
  | .hbm, ⟨11, _⟩ => ⟨S1, .i32⟩
  | .hbm, ⟨12, _⟩ => ⟨S1024x128, .bf16⟩
  | .hbm, ⟨13, _⟩ => ⟨S16x1, .f32⟩
  | .hbm, ⟨14, _⟩ => ⟨S256, .i32⟩
  | .hbm, ⟨15, _⟩ => ⟨S256x1, .i32⟩
  | .hbm, ⟨16, _⟩ => ⟨S256, .i32⟩
  | .hbm, ⟨17, _⟩ => ⟨S1x256, .i32⟩
  | .hbm, ⟨18, _⟩ => ⟨S256x256, .i32⟩
  | .hbm, ⟨19, _⟩ => ⟨S256x256, .i32⟩
  | .hbm, ⟨20, _⟩ => ⟨S256x256, .i1⟩
  | .hbm, ⟨21, _⟩ => ⟨S256x256, .bf16⟩
  | .hbm, ⟨22, _⟩ => ⟨S1024x1024, .bf16⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S128x1x256, .i32⟩
  | .hbm, ⟨27, _⟩ => ⟨S128x1x256, .i32⟩
  | .hbm, ⟨28, _⟩ => ⟨S32x128, .i32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1024x1024, .bf16⟩
  | .local _ .vmem, ⟨7, _⟩ => ⟨S1x1024, .f32⟩
  | .local _ .vmem, ⟨8, _⟩ => ⟨S1024x128, .bf16⟩
  | .local _ .vmem, ⟨9, _⟩ => ⟨S16x1, .f32⟩
  | .local _ .vmem, ⟨10, _⟩ => ⟨S256x256, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1x256, .i32⟩
  | .local _ .vmem, ⟨16, _⟩ => ⟨S1x1x256, .i32⟩
  | .local _ .vmem, ⟨17, _⟩ => ⟨S1x1x256, .i32⟩
  | .local _ .vmem, ⟨18, _⟩ => ⟨S1x1x256, .i32⟩
  | .local _ .vmem, ⟨19, _⟩ => ⟨S32x128, .i32⟩
  | .local _ .vmem, ⟨20, _⟩ => ⟨S32x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S32x128 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== OutRefIdeal.lean ====
abbrev S32768x1024 : Shape := ⟨2, ![32768, 1024]⟩
abbrev S4x6x1024 : Shape := ⟨3, ![4, 6, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S4x8192x1024 : Shape := ⟨3, ![4, 8192, 1024]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S4x6x1024, .f32⟩
  | .hbm, ⟨3, _⟩ => ⟨S1024x1024, .f32⟩
  | .hbm, ⟨4, _⟩ => ⟨S1024, .f32⟩
  | .hbm, ⟨5, _⟩ => ⟨S1024x16, .f32⟩
  | .hbm, ⟨6, _⟩ => ⟨S16, .f32⟩
  | .hbm, ⟨7, _⟩ => ⟨S32768x1024, .f32⟩
  | .hbm, ⟨8, _⟩ => ⟨S4x8192x1024, .f32⟩
  | .hbm, ⟨9, _⟩ => ⟨S4x8192x1024, .f32⟩
  | .hbm, ⟨10, _⟩ => ⟨S4x1x1024, .f32⟩
  | .hbm, ⟨11, _⟩ => ⟨S4x1024, .f32⟩
  | .hbm, ⟨12, _⟩ => ⟨S4x1x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S4x8192x1024, .f32⟩
  | .hbm, ⟨29, _⟩ => ⟨S4x8192x1024, .f32⟩
  | .hbm, ⟨30, _⟩ => ⟨S1x1x1024, .f32⟩
  | .hbm, ⟨31, _⟩ => ⟨S4x8192x1024, .f32⟩
  | .hbm, ⟨32, _⟩ => ⟨S4x8192x1024, .f32⟩
  | .hbm, ⟨33, _⟩ => ⟨S4x1x1024, .f32⟩
  | .hbm, ⟨34, _⟩ => ⟨S4x1024, .f32⟩
  | .hbm, ⟨35, _⟩ => ⟨S4x1x1024, .f32⟩
  | .hbm, ⟨36, _⟩ => ⟨S4x1024, .f32⟩
  | .hbm, ⟨37, _⟩ => ⟨S4x1x1024, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S4x8192x1024, .f32⟩
  | .hbm, ⟨42, _⟩ => ⟨S4x8192x1024, .f32⟩
  | .hbm, ⟨43, _⟩ => ⟨S4x1x1024, .f32⟩
  | .hbm, ⟨44, _⟩ => ⟨S4x8192x1024, .f32⟩
  | .hbm, ⟨45, _⟩ => ⟨S4x8192x1024, .f32⟩
  | .hbm, ⟨46, _⟩ => ⟨S32768x1024, .f32⟩
  | .hbm, ⟨47, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Experts.lean ====
abbrev S152 : Shape := ⟨1, ![152]⟩
abbrev S1 : Shape := ⟨1, ![1]⟩
abbrev S38912x1024 : Shape := ⟨2, ![38912, 1024]⟩
abbrev S16x1024x512 : Shape := ⟨3, ![16, 1024, 512]⟩
abbrev S16x512x1024 : Shape := ⟨3, ![16, 512, 1024]⟩
abbrev S1024x16 : Shape := ⟨2, ![1024, 16]⟩
abbrev S16x1024 : Shape := ⟨2, ![16, 1024]⟩
abbrev S16x1x1024 : Shape := ⟨3, ![16, 1, 1024]⟩
abbrev S256x1024 : Shape := ⟨2, ![256, 1024]⟩
abbrev S1x1024x512 : Shape := ⟨3, ![1, 1024, 512]⟩
abbrev S1x512x1024 : Shape := ⟨3, ![1, 512, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 13
  | .vmem => 20
  | .smem => 3
  | _ => 0

abbrev bufTy : (tb : Table) → Fin (tcTables nBuf tb) → BufTy
  | .hbm, ⟨0, _⟩ => ⟨S38912x1024, .f32⟩
  | .hbm, ⟨1, _⟩ => ⟨S16x1024x512, .f32⟩
  | .hbm, ⟨2, _⟩ => ⟨S16x1024x512, .f32⟩
  | .hbm, ⟨3, _⟩ => ⟨S16x512x1024, .f32⟩
  | .hbm, ⟨4, _⟩ => ⟨S1024x16, .f32⟩
  | .hbm, ⟨5, _⟩ => ⟨S1024x16, .bf16⟩
  | .hbm, ⟨6, _⟩ => ⟨S1024x16, .f32⟩
  | .hbm, ⟨7, _⟩ => ⟨S16x1024, .f32⟩
  | .hbm, ⟨8, _⟩ => ⟨S16x1x1024, .f32⟩
  | .hbm, ⟨9, _⟩ => ⟨S16x1024x512, .bf16⟩
  | .hbm, ⟨10, _⟩ => ⟨S16x1024x512, .bf16⟩
  | .hbm, ⟨11, _⟩ => ⟨S16x512x1024, .bf16⟩
  | .hbm, ⟨12, _⟩ => ⟨S38912x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S256x1024, .f32⟩
  | .local _ .vmem, ⟨19, _⟩ => ⟨S256x1024, .f32⟩
  | .local _ .smem, ⟨0, _⟩ => ⟨S152, .i32⟩
  | .local _ .smem, ⟨1, _⟩ => ⟨S152, .i32⟩
  | .local _ .smem, ⟨2, _⟩ => ⟨S1, .i32⟩
  | _, _ => ⟨S38912x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![152], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ExpertsRefIdeal.lean ====
abbrev S152 : Shape := ⟨1, ![152]⟩
abbrev S1 : Shape := ⟨1, ![1]⟩
abbrev S38912x1024 : Shape := ⟨2, ![38912, 1024]⟩
abbrev S16x1024x512 : Shape := ⟨3, ![16, 1024, 512]⟩
abbrev S16x512x1024 : Shape := ⟨3, ![16, 512, 1024]⟩
abbrev S1024x16 : Shape := ⟨2, ![1024, 16]⟩
abbrev S152x256x1024 : Shape := ⟨3, ![152, 256, 1024]⟩
abbrev S152x256x16 : Shape := ⟨3, ![152, 256, 16]⟩
abbrev S_ : Shape := ⟨0, ![]⟩
abbrev S152x256 : Shape := ⟨2, ![152, 256]⟩
abbrev S152x256x1 : Shape := ⟨3, ![152, 256, 1]⟩
abbrev S16 : Shape := ⟨1, ![16]⟩
abbrev S1x16 : Shape := ⟨2, ![1, 16]⟩
abbrev S152x1 : Shape := ⟨2, ![152, 1]⟩
abbrev S152x16 : Shape := ⟨2, ![152, 16]⟩
abbrev S152x1x16 : Shape := ⟨3, ![152, 1, 16]⟩
abbrev S152x1024x512 : Shape := ⟨3, ![152, 1024, 512]⟩
abbrev S152x256x512 : Shape := ⟨3, ![152, 256, 512]⟩
abbrev S152x512x1024 : Shape := ⟨3, ![152, 512, 1024]⟩
abbrev S152x1x1 : Shape := ⟨3, ![152, 1, 1]⟩
abbrev S1x1x1 : Shape := ⟨3, ![1, 1, 1]⟩

abbrev nBuf : Space → Nat
  | .hbm => 112
  | .vmem => 0
  | .smem => 0
  | _ => 0

abbrev bufTy : (tb : Table) → Fin (tcTables nBuf tb) → BufTy
  | .hbm, ⟨0, _⟩ => ⟨S152, .i32⟩
  | .hbm, ⟨1, _⟩ => ⟨S152, .i32⟩
  | .hbm, ⟨2, _⟩ => ⟨S1, .i32⟩
  | .hbm, ⟨3, _⟩ => ⟨S38912x1024, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S1024x16, .f32⟩
  | .hbm, ⟨8, _⟩ => ⟨S152x256x1024, .f32⟩
  | .hbm, ⟨9, _⟩ => ⟨S152x256x16, .f32⟩
  | .hbm, ⟨10, _⟩ => ⟨S_, .f32⟩
  | .hbm, ⟨11, _⟩ => ⟨S152x256, .f32⟩
  | .hbm, ⟨12, _⟩ => ⟨S_, .f32⟩
  | .hbm, ⟨13, _⟩ => ⟨S152x256, .f32⟩
  | .hbm, ⟨14, _⟩ => ⟨S152x256, .f32⟩
  | .hbm, ⟨15, _⟩ => ⟨S152x256x1, .f32⟩
  | .hbm, ⟨16, _⟩ => ⟨S152x256x16, .f32⟩
  | .hbm, ⟨17, _⟩ => ⟨S152x256x16, .f32⟩
  | .hbm, ⟨18, _⟩ => ⟨S152x256x16, .f32⟩
  | .hbm, ⟨19, _⟩ => ⟨S_, .f32⟩
  | .hbm, ⟨20, _⟩ => ⟨S152x256, .f32⟩
  | .hbm, ⟨21, _⟩ => ⟨S152x256x1, .f32⟩
  | .hbm, ⟨22, _⟩ => ⟨S152x256x16, .f32⟩
  | .hbm, ⟨23, _⟩ => ⟨S152x256x16, .f32⟩
  | .hbm, ⟨24, _⟩ => ⟨S16, .i32⟩
  | .hbm, ⟨25, _⟩ => ⟨S1x16, .i32⟩
  | .hbm, ⟨26, _⟩ => ⟨S152x1, .i32⟩
  | .hbm, ⟨27, _⟩ => ⟨S152x16, .i32⟩
  | .hbm, ⟨28, _⟩ => ⟨S152x16, .i32⟩
  | .hbm, ⟨29, _⟩ => ⟨S152x16, .i1⟩
  | .hbm, ⟨30, _⟩ => ⟨S152x1x16, .i1⟩
  | .hbm, ⟨31, _⟩ => ⟨S_, .f32⟩
  | .hbm, ⟨32, _⟩ => ⟨S_, .f32⟩
  | .hbm, ⟨33, _⟩ => ⟨S152x256x16, .i1⟩
  | .hbm, ⟨34, _⟩ => ⟨S152x256x16, .f32⟩
  | .hbm, ⟨35, _⟩ => ⟨S152x256x16, .f32⟩
  | .hbm, ⟨36, _⟩ => ⟨S_, .f32⟩
  | .hbm, ⟨37, _⟩ => ⟨S152x256, .f32⟩
  | .hbm, ⟨38, _⟩ => ⟨S152x256x1, .f32⟩
  | .hbm, ⟨39, _⟩ => ⟨S16, .i32⟩
  | .hbm, ⟨40, _⟩ => ⟨S1x16, .i32⟩
  | .hbm, ⟨41, _⟩ => ⟨S152x1, .i32⟩
  | .hbm, ⟨42, _⟩ => ⟨S152x16, .i32⟩
  | .hbm, ⟨43, _⟩ => ⟨S152x16, .i32⟩
  | .hbm, ⟨44, _⟩ => ⟨S152x16, .i1⟩
  | .hbm, ⟨45, _⟩ => ⟨S152x1x16, .i1⟩
  | .hbm, ⟨46, _⟩ => ⟨S_, .f32⟩
  | .hbm, ⟨47, _⟩ => ⟨S_, .f32⟩
  | .hbm, ⟨48, _⟩ => ⟨S152x256x16, .i1⟩
  | .hbm, ⟨49, _⟩ => ⟨S152x256x16, .f32⟩
  | .hbm, ⟨50, _⟩ => ⟨S152x256x16, .f32⟩
  | .hbm, ⟨51, _⟩ => ⟨S_, .f32⟩
  | .hbm, ⟨52, _⟩ => ⟨S152x256, .f32⟩
  | .hbm, ⟨53, _⟩ => ⟨S152x256x1, .f32⟩
  | .hbm, ⟨54, _⟩ => ⟨S152x256x1, .f32⟩
  | .hbm, ⟨55, _⟩ => ⟨S152x256x1, .f32⟩
  | .hbm, ⟨56, _⟩ => ⟨S152x1, .i32⟩
  | .hbm, ⟨57, _⟩ => ⟨S152x1024x512, .f32⟩
  | .hbm, ⟨58, _⟩ => ⟨S152x256x512, .f32⟩
  | .hbm, ⟨59, _⟩ => ⟨S152x256x512, .f32⟩
  | .hbm, ⟨60, _⟩ => ⟨S152x256x512, .f32⟩
  | .hbm, ⟨61, _⟩ => ⟨S_, .f32⟩
  | .hbm, ⟨62, _⟩ => ⟨S152x256x512, .f32⟩
  | .hbm, ⟨63, _⟩ => ⟨S152x256x512, .f32⟩
  | .hbm, ⟨64, _⟩ => ⟨S_, .f32⟩
  | .hbm, ⟨65, _⟩ => ⟨S152x256x512, .f32⟩
  | .hbm, ⟨66, _⟩ => ⟨S152x256x512, .f32⟩
  | .hbm, ⟨67, _⟩ => ⟨S152x256x512, .f32⟩
  | .hbm, ⟨68, _⟩ => ⟨S152x1, .i32⟩
  | .hbm, ⟨69, _⟩ => ⟨S152x1024x512, .f32⟩
  | .hbm, ⟨70, _⟩ => ⟨S152x256x512, .f32⟩
  | .hbm, ⟨71, _⟩ => ⟨S152x256x512, .f32⟩
  | .hbm, ⟨72, _⟩ => ⟨S152x1, .i32⟩
  | .hbm, ⟨73, _⟩ => ⟨S152x512x1024, .f32⟩
  | .hbm, ⟨74, _⟩ => ⟨S152x256x1024, .f32⟩
  | .hbm, ⟨75, _⟩ => ⟨S152x256x1024, .f32⟩
  | .hbm, ⟨76, _⟩ => ⟨S152x256x1024, .f32⟩
  | .hbm, ⟨77, _⟩ => ⟨S152x256x1, .f32⟩
  | .hbm, ⟨78, _⟩ => ⟨S152x256x1, .f32⟩
  | .hbm, ⟨79, _⟩ => ⟨S152x1, .i32⟩
  | .hbm, ⟨80, _⟩ => ⟨S152x1024x512, .f32⟩
  | .hbm, ⟨81, _⟩ => ⟨S152x256x512, .f32⟩
  | .hbm, ⟨82, _⟩ => ⟨S152x256x512, .f32⟩
  | .hbm, ⟨83, _⟩ => ⟨S152x256x512, .f32⟩
  | .hbm, ⟨84, _⟩ => ⟨S_, .f32⟩
  | .hbm, ⟨85, _⟩ => ⟨S152x256x512, .f32⟩
  | .hbm, ⟨86, _⟩ => ⟨S152x256x512, .f32⟩
  | .hbm, ⟨87, _⟩ => ⟨S_, .f32⟩
  | .hbm, ⟨88, _⟩ => ⟨S152x256x512, .f32⟩
  | .hbm, ⟨89, _⟩ => ⟨S152x256x512, .f32⟩
  | .hbm, ⟨90, _⟩ => ⟨S152x256x512, .f32⟩
  | .hbm, ⟨91, _⟩ => ⟨S152x1, .i32⟩
  | .hbm, ⟨92, _⟩ => ⟨S152x1024x512, .f32⟩
  | .hbm, ⟨93, _⟩ => ⟨S152x256x512, .f32⟩
  | .hbm, ⟨94, _⟩ => ⟨S152x256x512, .f32⟩
  | .hbm, ⟨95, _⟩ => ⟨S152x1, .i32⟩
  | .hbm, ⟨96, _⟩ => ⟨S152x512x1024, .f32⟩
  | .hbm, ⟨97, _⟩ => ⟨S152x256x1024, .f32⟩
  | .hbm, ⟨98, _⟩ => ⟨S152x256x1024, .f32⟩
  | .hbm, ⟨99, _⟩ => ⟨S152x256x1024, .f32⟩
  | .hbm, ⟨100, _⟩ => ⟨S152x256x1024, .f32⟩
  | .hbm, ⟨101, _⟩ => ⟨S152, .i32⟩
  | .hbm, ⟨102, _⟩ => ⟨S152x1x1, .i32⟩
  | .hbm, ⟨103, _⟩ => ⟨S1x1x1, .i32⟩
  | .hbm, ⟨104, _⟩ => ⟨S152x1x1, .i32⟩
  | .hbm, ⟨105, _⟩ => ⟨S152x1x1, .i1⟩
  | .hbm, ⟨106, _⟩ => ⟨S_, .f32⟩
  | .hbm, ⟨107, _⟩ => ⟨S_, .f32⟩
  | .hbm, ⟨108, _⟩ => ⟨S152x256x1024, .i1⟩
  | .hbm, ⟨109, _⟩ => ⟨S152x256x1024, .f32⟩
  | .hbm, ⟨110, _⟩ => ⟨S152x256x1024, .f32⟩
  | .hbm, ⟨111, _⟩ => ⟨S38912x1024, .f32⟩
  | _, _ => ⟨S152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call2_v0 : Ref sig .tc := ⟨.hbm, 56, rfl⟩
abbrev main_v35 : Ref sig .tc := ⟨.hbm, 57, rfl⟩
abbrev main_v36 : Ref sig .tc := ⟨.hbm, 58, rfl⟩
abbrev main_call3_v0 : Ref sig .tc := ⟨.hbm, 59, rfl⟩
abbrev main_call3_v1 : Ref sig .tc := ⟨.hbm, 60, rfl⟩
abbrev main_call3_cst : Ref sig .tc := ⟨.hbm, 61, rfl⟩
abbrev main_call3_v2 : Ref sig .tc := ⟨.hbm, 62, rfl⟩
abbrev main_call3_v3 : Ref sig .tc := ⟨.hbm, 63, rfl⟩
abbrev main_call3_cst_0 : Ref sig .tc := ⟨.hbm, 64, rfl⟩
abbrev main_call3_v4 : Ref sig .tc := ⟨.hbm, 65, rfl⟩
abbrev main_call3_v5 : Ref sig .tc := ⟨.hbm, 66, rfl⟩
abbrev main_v37 : Ref sig .tc := ⟨.hbm, 67, rfl⟩
abbrev main_call4_v0 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_call5_v0 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_call6_v0 : Ref sig .tc := ⟨.hbm, 79, rfl⟩
abbrev main_v47 : Ref sig .tc := ⟨.hbm, 80, rfl⟩
abbrev main_v48 : Ref sig .tc := ⟨.hbm, 81, rfl⟩
abbrev main_call7_v0 : Ref sig .tc := ⟨.hbm, 82, rfl⟩
abbrev main_call7_v1 : Ref sig .tc := ⟨.hbm, 83, rfl⟩
abbrev main_call7_cst : Ref sig .tc := ⟨.hbm, 84, rfl⟩
abbrev main_call7_v2 : Ref sig .tc := ⟨.hbm, 85, rfl⟩
abbrev main_call7_v3 : Ref sig .tc := ⟨.hbm, 86, rfl⟩
abbrev main_call7_cst_0 : Ref sig .tc := ⟨.hbm, 87, rfl⟩
abbrev main_call7_v4 : Ref sig .tc := ⟨.hbm, 88, rfl⟩
abbrev main_call7_v5 : Ref sig .tc := ⟨.hbm, 89, rfl⟩
abbrev main_v49 : Ref sig .tc := ⟨.hbm, 90, rfl⟩
abbrev main_call8_v0 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_call9_v0 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_6 : Ref sig .tc := ⟨.hbm, 106, rfl⟩
abbrev main_call10_v0 : Ref sig .tc := ⟨.hbm, 107, rfl⟩
abbrev main_call10_v1 : Ref sig .tc := ⟨.hbm, 108, rfl⟩
abbrev main_call10_v2 : Ref sig .tc := ⟨.hbm, 109, rfl⟩
abbrev main_v63 : Ref sig .tc := ⟨.hbm, 110, rfl⟩
abbrev main_v64 : Ref sig .tc := ⟨.hbm, 111, rfl⟩

abbrev nD : Nat := 1
abbrev τ : Topo := Topo.v7x

variable {F : FTy → Type} [FloatOps F]
-- ==== Ada.lean ====
abbrev S4x1024 : Shape := ⟨2, ![4, 1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩
abbrev S2x4x6144 : Shape := ⟨3, ![2, 4, 6144]⟩
abbrev S2x4x6x1024 : Shape := ⟨4, ![2, 4, 6, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S2x1024x6144, .f32⟩
  | .hbm, ⟨2, _⟩ => ⟨S2x6144, .f32⟩
  | .hbm, ⟨3, _⟩ => ⟨S_, .f32⟩
  | .hbm, ⟨4, _⟩ => ⟨S8x1024, .f32⟩
  | .hbm, ⟨5, _⟩ => ⟨S_, .i32⟩
  | .hbm, ⟨6, _⟩ => ⟨S1, .i32⟩
  | .hbm, ⟨7, _⟩ => ⟨S8x1024, .f32⟩
  | .hbm, ⟨8, _⟩ => ⟨S2x1x6144, .f32⟩
  | .hbm, ⟨9, _⟩ => ⟨S2x8x6144, .f32⟩
  | .hbm, ⟨10, _⟩ => ⟨S2x4x6144, .f32⟩
  | .hbm, ⟨11, _⟩ => ⟨S2x4x6x1024, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S4x1024 : Shape := ⟨2, ![4, 1024]⟩
abbrev S2x1024x6144 : Shape := ⟨3, ![2, 1024, 6144]⟩
abbrev S2x6144 : Shape := ⟨2, ![2, 6144]⟩
abbrev S_ : Shape := ⟨0, ![]⟩
abbrev S2x6144x4 : Shape := ⟨3, ![2, 6144, 4]⟩
abbrev S2x4x6144 : Shape := ⟨3, ![2, 4, 6144]⟩
abbrev S2x1x6144 : Shape := ⟨3, ![2, 1, 6144]⟩
abbrev S2x4x6x1024 : Shape := ⟨4, ![2, 4, 6, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S2x1024x6144, .f32⟩
  | .hbm, ⟨2, _⟩ => ⟨S2x6144, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S2x6144x4, .f32⟩
  | .hbm, ⟨13, _⟩ => ⟨S2x4x6144, .f32⟩
  | .hbm, ⟨14, _⟩ => ⟨S2x1x6144, .f32⟩
  | .hbm, ⟨15, _⟩ => ⟨S2x4x6144, .f32⟩
  | .hbm, ⟨16, _⟩ => ⟨S2x4x6144, .f32⟩
  | .hbm, ⟨17, _⟩ => ⟨S2x4x6x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.FinalValue.lean ====
/- The final normalization over exact values: the array the kernel leaves is the one the reference computes. -/
module

public import proofs.«01_k».proof.Proof.Gen.FinalIdeal.Frame
public import proofs.«01_k».proof.Proof.Gen.FinalRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.FinalIdeal.Value

open Cert.FinalIdeal Cert.FinalIdeal.Gen
open Cert.FinalRefIdeal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_cst val_main_cst_0 val_main_cst_1)

variable (m : (ℓ : Loc nD τ sig) → Buf (Elt Ideal) ℓ)

/-- The reference's result as a function of its four arguments. -/
abbrev REF (a0 a1 : FVec Ideal S32768x1024 .f32) (a2 : FVec Ideal S4x6x1024 .f32) (a3 : FVec Ideal S1024 .f32) :
    FVec Ideal S32768x1024 .f32 :=
  val_main_v21 (F := Ideal) a0 a1 a2 a3

/-- Where each window's block lies at grid point `t`. -/
theorem idx : ∀ t : Fin cfg0.N, win0_0.index t = ![t.val, 0] ∧ win0_1.index t = ![t.val, 0]
    ∧ win0_2.index t = ![t.val / 8, 0, 0] ∧ win0_3.index t = ![0, 0] ∧ win0_4.index t = ![t.val, 0] :=
  (by decide +kernel : ∀ t : Fin grid0.N, _)

theorem t_lt (t : Fin cfg0.N) : t.val < 32 := t.isLt

/-- The row of the array that row `r` of tile `t` is. -/
abbrev row (t : Fin cfg0.N) (r : Fin 1024) : Fin 32768 := ⟨t.val * 1024 + r.val, by have := t_lt t; omega⟩

/-- The sequence tile `t` lies in. -/
abbrev bat (t : Fin cfg0.N) : Fin 4 := ⟨t.val / 8, by have := t_lt t; omega⟩

/-- The tile of the residual stream. -/
theorem rd0 (c : Dev nD) (t : Fin cfg0.N) (r k : Fin 1024) : (iblk m c 0 t : FVec Ideal S1024x1024 .f32) (ix2 r k)
    = (m ((c : Thread nD τ).loc main_arg0) : FVec Ideal S32768x1024 .f32) (ix2 (row t r) k) := by
  blk_ext [iblk, V, idx t]

/-- The tile of the experts' output. -/
theorem rd1 (c : Dev nD) (t : Fin cfg0.N) (r k : Fin 1024) : (iblk m c 1 t : FVec Ideal S1024x1024 .f32) (ix2 r k)
    = (m ((c : Thread nD τ).loc main_arg1) : FVec Ideal S32768x1024 .f32) (ix2 (row t r) k) := by
  blk_ext [iblk, V, idx t]

/-- The modulation of the tile's sequence. -/
theorem rd2 (c : Dev nD) (t : Fin cfg0.N) (q : Fin 6) (k : Fin 1024) : (iblk m c 2 t : FVec Ideal S1x6x1024 .f32) (ix3 0 q k)
    = (m ((c : Thread nD τ).loc main_arg2) : FVec Ideal S4x6x1024 .f32) (ix3 (bat t) q k) := by
  blk_ext [iblk, V, idx t]

/-- The gain of the normalization, laid as a row before the launch. -/
theorem rd3 (c : Dev nD) (t : Fin cfg0.N) (k : Fin 1024) : (iblk m c 3 t : FVec Ideal S1x1024 .f32) (ix2 0 k)
    = (m ((c : Thread nD τ).loc main_arg3) : FVec Ideal S1024 .f32) (ix1 k) := by
  blk_simp [iblk]
  entry_read
  pointwise []
  blk_ext [idx t]

/-- Where the result's tile lies. -/
theorem emb4 (t : Fin cfg0.N) (r k : Fin 1024) :
    ((cfg0.win 4).blk t).view.emb (ix2 r k) = (ix2 (row t r) k : S32768x1024.Idx) := by
  blk_ext [idx t]

set_option maxHeartbeats 1600000 in
/-- What the body stores at place `y` of its block is the reference at the place of the array `y` stands for. -/
theorem point (c : Dev nD) (t : Fin cfg0.N) (y) :
    k0_pay1 (iblk m c 0 t) (iblk m c 2 t) (iblk m c 1 t) (iblk m c 3 t) y
      = REF (m ((c : Thread nD τ).loc main_arg0)) (m ((c : Thread nD τ).loc main_arg1))
          (m ((c : Thread nD τ).loc main_arg2)) (m ((c : Thread nD τ).loc main_arg3)) (((cfg0.win 4).blk t).view.emb y) := by
  idx_vars y
  rw [emb4 t y0 y1]
  pointwise [k0_pay1, REF, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  have hr : (t.val * 1024 + y0.val) / 8192 * 8192 + (t.val * 1024 + y0.val) % 8192 = t.val * 1024 + y0.val := by omega
  have hb : (t.val * 1024 + y0.val) / 8192 = t.val / 8 := by omega
  simp only [rd0, rd1, rd2, rd3, hr]
  simp only [hb]

/-- The result array after the run. -/
theorem final (c : Dev nD) : (dats m 0 c).arrAt 4 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

end Cert.FinalIdeal.Value

end
-- ==== Proof.ConvSpec.lean ====
/- The convolution layer row by row: what each stage is at one token and one channel, and the reference stage by stage. -/
module

public import proofs.«01_k».proof.Proof.Gen.ConvRefIdeal.Read
public import proofs.«01_k».proof.Proof.Gen.ConvRefIdeal.Run
public import Idealize.ShloMosaic.Lib.Pointwise

@[expose] public section

set_option maxRecDepth 16384

noncomputable section

open Idealize.ShloMosaic Idealize.ShloMosaic.TcCoe Idealize.SL.Sem
open scoped BigOperators

namespace Cert.ConvSpec

open Cert.ConvRefIdeal Cert.ConvRefIdeal.Read

/-- The layer's arguments: the residual stream and the experts' output before it, the two modulations, the norms'
    gains, the gate's projection, the convolution's taps and bias, and the output projection. -/
structure Args where
  x : FVec Ideal S32768x1024 .f32
  y : FVec Ideal S32768x1024 .f32
  p : FVec Ideal S4x6x1024 .f32
  q : FVec Ideal S4x6x1024 .f32
  g : FVec Ideal S1024 .f32
  w : FVec Ideal S1024x3072 .f32
  cw : FVec Ideal S3x1024 .f32
  cb : FVec Ideal S1024 .f32
  wo : FVec Ideal S1024x1024 .f32
  g2 : FVec Ideal S1024 .f32

/-- The sequence token `R` lies in. -/
abbrev bat (R : Fin 32768) : Fin 4 := ⟨R.val / 8192, by omega⟩

/-- The factor an RMS norm multiplies a row by. -/
def rms (f : Fin 1024 → EReal) : EReal :=
  Ideal.rsqrt (Ideal.div (∑ k, f k * f k) (Ideal.ofBits .f32 1149239296#32) + Ideal.ofBits .f32 897988541#32)

namespace Args
variable (A : Args)

/-- The residual stream entering the layer. -/
def res (R : Fin 32768) (k : Fin 1024) : EReal := A.x (ix2 R k) + A.p (ix3 (bat R) 5 k) * A.y (ix2 R k)

/-- The normed and modulated row. -/
def inp (R : Fin 32768) (k : Fin 1024) : EReal :=
  A.res R k * rms (A.res R) * A.g (ix1 k) * (1 + A.q (ix3 (bat R) 1 k)) + A.q (ix3 (bat R) 0 k)

/-- The output gate. -/
def gate (R : Fin 32768) (j : Fin 1024) : EReal := ∑ k, A.inp R k * A.w (ix2 k ⟨j.val, by omega⟩)

/-- The convolution's input: the product of the other two projections. -/
def z (R : Fin 32768) (j : Fin 1024) : EReal :=
  (∑ k, A.inp R k * A.w (ix2 k ⟨1024 + j.val, by omega⟩)) * ∑ k, A.inp R k * A.w (ix2 k ⟨2048 + j.val, by omega⟩)

/-- The convolution's input `d` tokens earlier, zero before the sequence begins. -/
def zb (d : ℕ) (R : Fin 32768) (j : Fin 1024) : EReal :=
  if d ≤ R.val % 8192 then A.z ⟨R.val - d, by omega⟩ j else 0

/-- The causal convolution of three taps. -/
def zc (R : Fin 32768) (j : Fin 1024) : EReal :=
  A.cw (ix2 0 j) * A.zb 2 R j + A.cw (ix2 1 j) * A.zb 1 R j + A.cw (ix2 2 j) * A.z R j + A.cb (ix1 j)

/-- The residual stream leaving the layer. -/
def out (R : Fin 32768) (k : Fin 1024) : EReal :=
  A.res R k + A.q (ix3 (bat R) 2 k) * ∑ j, A.gate R j * A.zc R j * A.wo (ix2 j k)

/-- The experts' input: the row leaving the layer, normed and modulated. -/
def nxt (R : Fin 32768) (k : Fin 1024) : EReal :=
  A.out R k * rms (A.out R) * A.g2 (ix1 k) * (1 + A.q (ix3 (bat R) 4 k)) + A.q (ix3 (bat R) 3 k)

/-- The token at place `s` of sequence `b`. -/
abbrev tok (b : Fin 4) (s : Fin 8192) : Fin 32768 := ⟨b.val * 8192 + s.val, by omega⟩

theorem bat_tok (b : Fin 4) (s : Fin 8192) : bat (tok b s) = b := by ext; show (b.val * 8192 + s.val) / 8192 = b.val; omega

/-- The reference's residual stream. -/
theorem ref_res (b : Fin 4) (s : Fin 8192) (k : Fin 1024) :
    val_main_v7 (F := Ideal) A.x A.y A.p (ix3 b s k) = A.res (tok b s) k := by
  pointwise [val_main_v7, val_main_v6, val_main_v5, val_main_v4, val_main_v3, val_main_v2, val_main_v1, val_main_v0]
  simp only [res, bat_tok]

/-- The reference's normed row. -/
theorem ref_inp (b : Fin 4) (s : Fin 8192) (k : Fin 1024) :
    val_main_v32 (F := Ideal) A.x A.y A.p A.q A.g (ix3 b s k) = A.inp (tok b s) k := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst, val_main_cst_0, val_main_cst_1, val_main_cst_2]
  simp only [ref_res, inp, rms, bat_tok]

/-- The reference's gate. -/
theorem ref_gate (b : Fin 4) (s : Fin 8192) (j : Fin 1024) :
    val_main_v34 (F := Ideal) A.x A.y A.p A.q A.g A.w (ix3 b s j) = A.gate (tok b s) j := by
  pointwise [val_main_v34, val_main_v33]
  simp only [ref_inp, gate]

/-- The reference's convolution input. -/
theorem ref_z (b : Fin 4) (s : Fin 8192) (j : Fin 1024) :
    val_main_v37 (F := Ideal) A.x A.y A.p A.q A.g A.w (ix3 b s j) = A.z (tok b s) j := by
  pointwise [val_main_v37, val_main_v36, val_main_v35, val_main_v33]
  simp only [ref_inp, z]

/-- The reference's padded convolution input, read `d` tokens back. -/
theorem ref_pad (d : ℕ) (hd : d ≤ 2) (b : Fin 4) (s : Fin 8192) (e : Fin 8194) (he : e.val = 2 - d + s.val) (j : Fin 1024) :
    val_main_v38 (F := Ideal) A.x A.y A.p A.q A.g A.w (ix3 b e j) = A.zb d (tok b s) j := by
  have hm : (b.val * 8192 + s.val) % 8192 = s.val := by omega
  pointwise [val_main_v38, val_main_call0_v0, val_main_c]
  by_cases h : d ≤ s.val
  · rw [dif_pos ⟨by omega, by omega⟩, ref_z, zb, if_pos (by show d ≤ (b.val * 8192 + s.val) % 8192; omega)]
    congr 1
    ext; show b.val * 8192 + (e.val - 2) = b.val * 8192 + s.val - d; omega
  · rw [dif_neg (by omega), zb, if_neg (by show ¬ d ≤ (b.val * 8192 + s.val) % 8192; omega)]
    show (((0#32 : BitVec 32).toInt : ℝ) : EReal) = 0
    simp

/-- The reference's convolution. -/
theorem ref_zc (b : Fin 4) (s : Fin 8192) (j : Fin 1024) :
    val_main_v61 (F := Ideal) A.x A.y A.p A.q A.g A.w A.cw A.cb (ix3 b s j) = A.zc (tok b s) j := by
  pointwise [val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39]
  rw [A.ref_pad 2 (by omega) b s _ (by show s.val = _; omega), A.ref_pad 1 (by omega) b s _ (by show 1 + s.val = _; omega),
    A.ref_pad 0 (by omega) b s _ (by show 2 + s.val = _; omega), zc]
  have h0 : A.zb 0 (tok b s) j = A.z (tok b s) j := by rw [zb, if_pos (Nat.zero_le _)]; rfl
  rw [h0, mul_comm (A.zb 2 _ _), mul_comm (A.zb 1 _ _), mul_comm (A.z _ _)]

/-- The reference's residual stream leaving the layer. -/
theorem ref_out (b : Fin 4) (s : Fin 8192) (k : Fin 1024) :
    val_main_v69 (F := Ideal) A.x A.y A.p A.q A.g A.w A.cw A.cb A.wo (ix3 b s k) = A.out (tok b s) k := by
  pointwise [val_main_v69, val_main_v68, val_main_v67, val_main_v66, val_main_v65, val_main_v64, val_main_v63, val_main_v62]
  simp only [ref_res, ref_gate, ref_zc, out, bat_tok]

/-- The reference's experts' input. -/
theorem ref_nxt (b : Fin 4) (s : Fin 8192) (k : Fin 1024) :
    val_main_v94 (F := Ideal) A.x A.y A.p A.q A.g A.w A.cw A.cb A.wo A.g2 (ix3 b s k) = A.nxt (tok b s) k := by
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_cst_3, val_main_cst_4, val_main_cst_5, val_main_cst_6]
  simp only [ref_out, nxt, rms, bat_tok]

theorem tok_div (R : Fin 32768) : tok ⟨R.val / 8192, by omega⟩ ⟨R.val % 8192, by omega⟩ = R := by
  ext; show R.val / 8192 * 8192 + R.val % 8192 = R.val; omega

/-- The reference's first result, token by token. -/
theorem ref_out_flat (R : Fin 32768) (k : Fin 1024) :
    val_main_v95 (F := Ideal) A.x A.y A.p A.q A.g A.w A.cw A.cb A.wo (ix2 R k) = A.out R k := by
  pointwise [val_main_v95]
  rw [ref_out, tok_div]

/-- The reference's second result, token by token. -/
theorem ref_nxt_flat (R : Fin 32768) (k : Fin 1024) :
    val_main_v96 (F := Ideal) A.x A.y A.p A.q A.g A.w A.cw A.cb A.wo A.g2 (ix2 R k) = A.nxt R k := by
  pointwise [val_main_v96]
  rw [ref_nxt, tok_div]

/-- The residual stream leaving the layer, as an array. -/
def OUT : FVec Ideal S32768x1024 .f32 := fun i => A.out (i 0) (i 1)

/-- The experts' input, as an array. -/
def NXT : FVec Ideal S32768x1024 .f32 := fun i => A.nxt (i 0) (i 1)

end Args

/-- The reference's arguments as they lie in memory. -/
abbrev refArgs (m : (ℓ : Loc nD τ sig) → Buf (Elt Ideal) ℓ) (c : Dev nD) : Args where
  x := m ((c : Thread nD τ).loc main_arg0)
  y := m ((c : Thread nD τ).loc main_arg1)
  p := m ((c : Thread nD τ).loc main_arg2)
  q := m ((c : Thread nD τ).loc main_arg3)
  g := m ((c : Thread nD τ).loc main_arg4)
  w := m ((c : Thread nD τ).loc main_arg5)
  cw := m ((c : Thread nD τ).loc main_arg6)
  cb := m ((c : Thread nD τ).loc main_arg7)
  wo := m ((c : Thread nD τ).loc main_arg8)
  g2 := m ((c : Thread nD τ).loc main_arg9)

/-- The reference's first result. -/
theorem ref_OUT (m : (ℓ : Loc nD τ sig) → Buf (Elt Ideal) ℓ) (c : Dev nD) :
    Cert.ConvRefIdeal.Value.res_main_v95 m c = (refArgs m c).OUT := by
  rw [val_main_v95_eq]
  funext i
  idx_vars i
  exact (refArgs m c).ref_out_flat i0 i1

/-- The reference's second result. -/
theorem ref_NXT (m : (ℓ : Loc nD τ sig) → Buf (Elt Ideal) ℓ) (c : Dev nD) :
    Cert.ConvRefIdeal.Value.res_main_v96 m c = (refArgs m c).NXT := by
  rw [val_main_v96_eq]
  funext i
  idx_vars i
  exact (refArgs m c).ref_nxt_flat i0 i1

end Cert.ConvSpec

end
-- ==== Proof.ConvBody.lean ====
/- The convolution layer over exact values: the arrays the kernel leaves are the ones the reference computes. -/
module

public import proofs.«01_k».proof.Proof.Gen.ConvIdeal.Frame
public import proofs.«01_k».proof.Proof.ConvSpec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.ConvIdeal.Value

open Cert.ConvIdeal Cert.ConvIdeal.Gen
open Cert.ConvSpec (Args bat rms)

variable (m : (ℓ : Loc nD τ sig) → Buf (Elt Ideal) ℓ) (c : Dev nD)

/-- The layer's arguments as they lie in memory at the launch. -/
abbrev args : Args where
  x := m ((c : Thread nD τ).loc main_arg0)
  y := m ((c : Thread nD τ).loc main_arg1)
  p := m ((c : Thread nD τ).loc main_arg2)
  q := m ((c : Thread nD τ).loc main_arg3)
  g := m ((c : Thread nD τ).loc main_arg4)
  w := m ((c : Thread nD τ).loc main_arg5)
  cw := m ((c : Thread nD τ).loc main_arg6)
  cb := m ((c : Thread nD τ).loc main_arg7)
  wo := m ((c : Thread nD τ).loc main_arg8)
  g2 := m ((c : Thread nD τ).loc main_arg9)

/-- Where each window's block lies at grid point `t`. -/
theorem idx : ∀ t : Fin cfg0.N, win0_0.index t = ![t.val, 0] ∧ win0_1.index t = ![t.val, 0]
    ∧ win0_2.index t = ![t.val / 32, 0, 0] ∧ win0_3.index t = ![t.val / 32, 0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_13.index t = ![t.val, 0] ∧ win0_14.index t = ![t.val, 0] :=
  (by decide +kernel : ∀ t : Fin grid0.N, _)

theorem t_lt (t : Fin cfg0.N) : t.val < 128 := t.isLt

/-- The token that row `r` of tile `t` is. -/
abbrev row (t : Fin cfg0.N) (r : Fin 256) : Fin 32768 := ⟨t.val * 256 + r.val, by have := t_lt t; omega⟩

theorem rd0 (t : Fin cfg0.N) (r : Fin 256) (k : Fin 1024) :
    (iblk m c 0 t : FVec Ideal S256x1024 .f32) (ix2 r k) = (args m c).x (ix2 (row t r) k) := by
  blk_ext [iblk, V, idx t]

theorem rd1 (t : Fin cfg0.N) (r : Fin 256) (k : Fin 1024) :
    (iblk m c 1 t : FVec Ideal S256x1024 .f32) (ix2 r k) = (args m c).y (ix2 (row t r) k) := by
  blk_ext [iblk, V, idx t]

theorem rd2 (t : Fin cfg0.N) (r : Fin 256) (s : Fin 6) (k : Fin 1024) :
    (iblk m c 2 t : FVec Ideal S1x6x1024 .f32) (ix3 0 s k) = (args m c).p (ix3 (bat (row t r)) s k) := by
  blk_ext [iblk, V, idx t]

theorem rd3 (t : Fin cfg0.N) (r : Fin 256) (s : Fin 6) (k : Fin 1024) :
    (iblk m c 3 t : FVec Ideal S1x6x1024 .f32) (ix3 0 s k) = (args m c).q (ix3 (bat (row t r)) s k) := by
  blk_ext [iblk, V, idx t]

theorem rd4 (t : Fin cfg0.N) (k : Fin 1024) :
    (iblk m c 4 t : FVec Ideal S1x1024 .f32) (ix2 0 k) = (args m c).g (ix1 k) := by
  blk_simp [iblk]
  entry_read
  pointwise []
  blk_ext [idx t]

theorem rd5 (t : Fin cfg0.N) (k : Fin 1024) (j : Fin 3072) :
    (iblk m c 5 t : FVec Ideal S1024x3072 .bf16) (ix2 k j) = (args m c).w (ix2 k j) := by
  blk_simp [iblk]
  entry_read
  pointwise []
  blk_ext [idx t]

theorem rd6 (t : Fin cfg0.N) (s : Fin 3) (k : Fin 1024) :
    (iblk m c 6 t : FVec Ideal S3x1024 .f32) (ix2 s k) = (args m c).cw (ix2 s k) := by
  blk_ext [iblk, V, idx t]

theorem rd7 (t : Fin cfg0.N) (k : Fin 1024) :
    (iblk m c 7 t : FVec Ideal S1x1024 .f32) (ix2 0 k) = (args m c).cb (ix1 k) := by
  blk_simp [iblk]
  entry_read
  pointwise []
  blk_ext [idx t]

theorem rd8 (t : Fin cfg0.N) (j k : Fin 1024) :
    (iblk m c 8 t : FVec Ideal S1024x1024 .bf16) (ix2 j k) = (args m c).wo (ix2 j k) := by
  blk_simp [iblk]
  entry_read
  pointwise []
  blk_ext [idx t]

theorem rd9 (t : Fin cfg0.N) (k : Fin 1024) :
    (iblk m c 9 t : FVec Ideal S1x1024 .f32) (ix2 0 k) = (args m c).g2 (ix1 k) := by
  blk_simp [iblk]
  entry_read
  pointwise []
  blk_ext [idx t]

/-- Where the first result's tile lies. -/
theorem emb13 (t : Fin cfg0.N) (r : Fin 256) (k : Fin 1024) :
    ((cfg0.win 13).blk t).view.emb (ix2 r k) = (ix2 (row t r) k : S32768x1024.Idx) := by
  blk_ext [idx t]

/-- Where the second result's tile lies. -/
theorem emb14 (t : Fin cfg0.N) (r : Fin 256) (k : Fin 1024) :
    ((cfg0.win 14).blk t).view.emb (ix2 r k) = (ix2 (row t r) k : S32768x1024.Idx) := by
  blk_ext [idx t]

/-- The tile's rows of the residual stream. -/
abbrev bRes (t : Fin cfg0.N) : FVec Ideal S256x1024 .f32 := k0_pay3 (F := Ideal) (iblk m c 0 t) (iblk m c 2 t) (iblk m c 1 t)

theorem bRes_at (t : Fin cfg0.N) (r : Fin 256) (k : Fin 1024) : bRes m c t (ix2 r k) = (args m c).res (row t r) k := by
  pointwise [bRes, k0_pay3]
  simp only [rd0, rd1, rd2 m c t r, Args.res]

/-- The tile's normed rows, before the gain. -/
abbrev bNrm (t : Fin cfg0.N) : FVec Ideal S256x1024 .f32 := k0_pay4 (F := Ideal) (iblk m c 0 t) (iblk m c 2 t) (iblk m c 1 t)

theorem bNrm_at (t : Fin cfg0.N) (r : Fin 256) (k : Fin 1024) :
    bNrm m c t (ix2 r k) = (args m c).res (row t r) k * rms ((args m c).res (row t r)) := by
  pointwise [bNrm, k0_pay4]
  have h (k : Fin 1024) := bRes_at m c t r k
  simp only [bRes] at h
  simp only [h, rms]

/-- The tile's normed and modulated rows. -/
theorem inp_at (t : Fin cfg0.N) (r : Fin 256) (k : Fin 1024) :
    k0_pay6 (F := Ideal) (k0_pay2 (iblk m c 3 t)) (bNrm m c t) (k0_pay5 (iblk m c 4 t)) (ix2 r k) = (args m c).inp (row t r) k := by
  pointwise [k0_pay6, k0_pay2, k0_pay5]
  rw [bNrm_at, rd4, rd3 m c t r, rd3 m c t r, Args.inp]

/-- The tile's gate. -/
abbrev bGate (t : Fin cfg0.N) : FVec Ideal S256x1024 .f32 :=
  k0_pay7 (F := Ideal) (k0_pay2 (iblk m c 3 t)) (bNrm m c t) (k0_pay5 (iblk m c 4 t))
    (View.ld (iblk m c 5 t) (Rect.unit ![0, 0] ![1024, 1024] inb_S1024x3072_S1024x1024_0_0))

theorem bGate_at (t : Fin cfg0.N) (r : Fin 256) (j : Fin 1024) : bGate m c t (ix2 r j) = (args m c).gate (row t r) j := by
  pointwise [bGate, k0_pay7]
  simp only [inp_at, rd5, Args.gate]

/-- The tile's convolution input. -/
abbrev bZ (t : Fin cfg0.N) : FVec Ideal S256x1024 .f32 :=
  k0_pay8 (F := Ideal) (k0_pay2 (iblk m c 3 t)) (bNrm m c t) (k0_pay5 (iblk m c 4 t))
    (View.ld (iblk m c 5 t) (Rect.unit ![0, 1024] ![1024, 1024] inb_S1024x3072_S1024x1024_0_1024))
    (View.ld (iblk m c 5 t) (Rect.unit ![0, 2048] ![1024, 1024] inb_S1024x3072_S1024x1024_0_2048))

theorem bZ_at (t : Fin cfg0.N) (r : Fin 256) (j : Fin 1024) : bZ m c t (ix2 r j) = (args m c).z (row t r) j := by
  pointwise [bZ, k0_pay8]
  simp only [inp_at, rd5, Args.z]

/-- A choice by the number of the row. -/
theorem select_row (r n : ℕ) (hr : r < 256) (hn : n < 256) (a b : EReal) :
    (Scalar.select (IntOp.cmpi CmpIPredicate.eq (BitVec.ofNat 32 r) (BitVec.ofNat 32 n)) a b : EReal) = if r = n then a else b := by
  have h : (BitVec.ofNat 32 r = BitVec.ofNat 32 n) ↔ r = n :=
    ⟨fun e => by have := congrArg BitVec.toNat e; simp only [BitVec.toNat_ofNat] at this; omega, fun e => by rw [e]⟩
  by_cases e : r = n
  · simp [Scalar.select, IntOp.cmpi, e]
  · have hb : (BitVec.ofNat 32 r == BitVec.ofNat 32 n) = false := beq_eq_false_iff_ne.mpr fun q => e (h.mp q)
    simp [Scalar.select, IntOp.cmpi, hb, e]

/-- What the rows kept from the tile before must be: the convolution's input just before the tile, zero before the
    sequence begins. -/
def Kept (t : Fin cfg0.N) (P : FVec Ideal S8x1024 .f32) : Prop :=
  ∀ (s : Fin 8) (k : Fin 1024), P (ix2 s k) = (args m c).zb (8 - s.val) (row t 0) k

/-- The convolution's input one token earlier. -/
theorem bZ1_at (t : Fin cfg0.N) (P : FVec Ideal S8x1024 .f32) (hP : Kept m c t P) (r : Fin 256) (j : Fin 1024) :
    k0_pay9 (F := Ideal) (k0_pay2 (iblk m c 3 t)) (bNrm m c t) (k0_pay5 (iblk m c 4 t))
      (View.ld (iblk m c 5 t) (Rect.unit ![0, 1024] ![1024, 1024] inb_S1024x3072_S1024x1024_0_1024))
      (View.ld (iblk m c 5 t) (Rect.unit ![0, 2048] ![1024, 1024] inb_S1024x3072_S1024x1024_0_2048)) P (ix2 r j)
      = (args m c).zb 1 (row t r) j := by
  have hz (r : Fin 256) (j : Fin 1024) := bZ_at m c t r j
  simp only [bZ] at hz
  have ht := t_lt t
  pointwise [k0_pay9]
  rw [select_row r.val 0 r.isLt (by omega), hP, hz]
  split_ifs with h
  · have : r = 0 := Fin.ext h
    rw [this]; rfl
  · rw [Args.zb, if_pos (by show 1 ≤ (t.val * 256 + r.val) % 8192; omega)]
    congr 1
    ext; show t.val * 256 + (r.val + 256 - 1) % 256 = t.val * 256 + r.val - 1; omega

/-- The convolution's input two tokens earlier. -/
theorem bZ2_at (t : Fin cfg0.N) (P : FVec Ideal S8x1024 .f32) (hP : Kept m c t P) (r : Fin 256) (j : Fin 1024) :
    k0_pay10 (F := Ideal) (k0_pay2 (iblk m c 3 t)) (bNrm m c t) (k0_pay5 (iblk m c 4 t))
      (View.ld (iblk m c 5 t) (Rect.unit ![0, 1024] ![1024, 1024] inb_S1024x3072_S1024x1024_0_1024))
      (View.ld (iblk m c 5 t) (Rect.unit ![0, 2048] ![1024, 1024] inb_S1024x3072_S1024x1024_0_2048)) P (ix2 r j)
      = (args m c).zb 2 (row t r) j := by
  have hz (r : Fin 256) (j : Fin 1024) := bZ_at m c t r j
  simp only [bZ] at hz
  have ht := t_lt t
  pointwise [k0_pay10]
  rw [select_row r.val 0 r.isLt (by omega), select_row r.val 1 r.isLt (by omega), hP, hP, hz]
  split_ifs with h h'
  · have : r = 0 := Fin.ext h
    rw [this]; rfl
  · have : r = 1 := Fin.ext h'
    rw [this]
    by_cases ht32 : t.val % 32 = 0
    · rw [Args.zb, Args.zb, if_neg (by show ¬ 1 ≤ (t.val * 256 + 0) % 8192; omega), if_neg (by show ¬ 2 ≤ (t.val * 256 + 1) % 8192; omega)]
    · rw [Args.zb, Args.zb, if_pos (by show 1 ≤ (t.val * 256 + 0) % 8192; omega), if_pos (by show 2 ≤ (t.val * 256 + 1) % 8192; omega)]
      congr 1
  · rw [Args.zb, if_pos (by show 2 ≤ (t.val * 256 + r.val) % 8192; omega)]
    congr 1
    ext; show t.val * 256 + (r.val + 256 - 2) % 256 = t.val * 256 + r.val - 2; omega

/-- The rows the tile hands on. -/
theorem carry_at (t : Fin cfg0.N) (s : Fin 8) (k : Fin 1024) :
    k0_pay11 (F := Ideal) (bZ m c t) (ix2 s k) = (args m c).z (row t ⟨248 + s.val, by omega⟩) k := by
  pointwise [k0_pay11]
  exact bZ_at m c t _ k

/-- The tile's modulation. -/
theorem mod_at (t : Fin cfg0.N) (r : Fin 256) (s : Fin 6) (k : Fin 1024) :
    k0_pay2 (F := Ideal) (iblk m c 3 t) (ix2 s k) = (args m c).q (ix3 (bat (row t r)) s k) := by
  pointwise [k0_pay2]
  rw [rd3 m c t r]

/-- The tile's rows of the residual stream leaving the layer. -/
abbrev bOut (t : Fin cfg0.N) (P : FVec Ideal S8x1024 .f32) : FVec Ideal S256x1024 .f32 :=
  k0_pay12 (F := Ideal) (k0_pay2 (iblk m c 3 t)) (bRes m c t) (bGate m c t) (bZ m c t)
    (k0_pay9 (F := Ideal) (k0_pay2 (iblk m c 3 t)) (bNrm m c t) (k0_pay5 (iblk m c 4 t))
      (View.ld (iblk m c 5 t) (Rect.unit ![0, 1024] ![1024, 1024] inb_S1024x3072_S1024x1024_0_1024))
      (View.ld (iblk m c 5 t) (Rect.unit ![0, 2048] ![1024, 1024] inb_S1024x3072_S1024x1024_0_2048)) P)
    (k0_pay10 (F := Ideal) (k0_pay2 (iblk m c 3 t)) (bNrm m c t) (k0_pay5 (iblk m c 4 t))
      (View.ld (iblk m c 5 t) (Rect.unit ![0, 1024] ![1024, 1024] inb_S1024x3072_S1024x1024_0_1024))
      (View.ld (iblk m c 5 t) (Rect.unit ![0, 2048] ![1024, 1024] inb_S1024x3072_S1024x1024_0_2048)) P)
    (iblk m c 6 t) (iblk m c 7 t) (iblk m c 8 t)

theorem bOut_at (t : Fin cfg0.N) (P : FVec Ideal S8x1024 .f32) (hP : Kept m c t P) (r : Fin 256) (k : Fin 1024) :
    bOut m c t P (ix2 r k) = (args m c).out (row t r) k := by
  have h3 (r : Fin 256) (j : Fin 1024) := bRes_at m c t r j
  have h7 (r : Fin 256) (j : Fin 1024) := bGate_at m c t r j
  have h8 (r : Fin 256) (j : Fin 1024) := bZ_at m c t r j
  have h9 (r : Fin 256) (j : Fin 1024) := bZ1_at m c t P hP r j
  have h10 (r : Fin 256) (j : Fin 1024) := bZ2_at m c t P hP r j
  simp only [bRes] at h3
  simp only [bGate] at h7
  simp only [bZ] at h8
  pointwise [bOut, k0_pay12]
  simp only [h3, h7, h8, h9, h10, rd6, rd7, rd8, mod_at m c t r, Args.out, Args.zc]

/-- The tile's rows of the experts' input. -/
abbrev bNxt (t : Fin cfg0.N) (P : FVec Ideal S8x1024 .f32) : FVec Ideal S256x1024 .f32 :=
  k0_pay15 (F := Ideal) (k0_pay2 (iblk m c 3 t)) (bOut m c t P)
    (k0_pay14 (F := Ideal) (k0_pay2 (iblk m c 3 t)) (bRes m c t) (bGate m c t) (bZ m c t)
      (k0_pay9 (F := Ideal) (k0_pay2 (iblk m c 3 t)) (bNrm m c t) (k0_pay5 (iblk m c 4 t))
        (View.ld (iblk m c 5 t) (Rect.unit ![0, 1024] ![1024, 1024] inb_S1024x3072_S1024x1024_0_1024))
        (View.ld (iblk m c 5 t) (Rect.unit ![0, 2048] ![1024, 1024] inb_S1024x3072_S1024x1024_0_2048)) P)
      (k0_pay10 (F := Ideal) (k0_pay2 (iblk m c 3 t)) (bNrm m c t) (k0_pay5 (iblk m c 4 t))
        (View.ld (iblk m c 5 t) (Rect.unit ![0, 1024] ![1024, 1024] inb_S1024x3072_S1024x1024_0_1024))
        (View.ld (iblk m c 5 t) (Rect.unit ![0, 2048] ![1024, 1024] inb_S1024x3072_S1024x1024_0_2048)) P)
      (iblk m c 6 t) (iblk m c 7 t) (iblk m c 8 t))
    (iblk m c 9 t)

theorem bNxt_at (t : Fin cfg0.N) (P : FVec Ideal S8x1024 .f32) (hP : Kept m c t P) (r : Fin 256) (k : Fin 1024) :
    bNxt m c t P (ix2 r k) = (args m c).nxt (row t r) k := by
  have h (k : Fin 1024) := bOut_at m c t P hP r k
  simp only [bOut] at h
  pointwise [bNxt, k0_pay15, k0_pay14]
  simp only [h, rd9, mod_at m c t r, Args.nxt, rms]

end Cert.ConvIdeal.Value

end
-- ==== Proof.ConvValue.lean ====
/- The convolution layer's kernel over exact values, from its tiles to whole arrays. -/
module

public import proofs.«01_k».proof.Proof.ConvBody
public import Idealize.ShloMosaic.Lib.WholeRead

@[expose] public section

set_option maxRecDepth 16384

noncomputable section

open Idealize.ShloMosaic Idealize.ShloMosaic.TcCoe Idealize.SL.Sem
open Idealize.ShloMosaic.Pipeline (Dat)
open scoped BigOperators

namespace Cert.ConvIdeal.Value

open Cert.ConvIdeal Cert.ConvIdeal.Gen
open Cert.ConvSpec (Args bat rms)

variable (m : (ℓ : Loc nD τ sig) → Buf (Elt Ideal) ℓ) (c : Dev nD)

/-- Nothing comes before a sequence's first tile. -/
theorem kept_first (t : Fin cfg0.N) (h : t.val % 32 = 0) : Kept m c t (k0_pay1 (F := Ideal)) := by
  intro s k
  pointwise [k0_pay1]
  rw [Args.zb, if_neg (by show ¬ 8 - s.val ≤ (t.val * 256 + 0) % 8192; omega)]

/-- What a tile leaves for the next one: its last eight rows of the convolution's input. -/
theorem carry (t : Fin cfg0.N) (s : Fin 8) (k : Fin 1024) :
    (outsAt0 m c t.val t.isLt).2.2.2.2.2.2 (ix2 s k) = (args m c).z (row t ⟨248 + s.val, by omega⟩) k := by
  by_cases h0 : t.val % 32 = 0
  · by_cases h1 : t.val % 128 = 0
    · rw [outsAt0_A m c t h0 h1]; frame_out; exact carry_at m c t s k
    · rw [outsAt0_C m c t h0 h1]; frame_out; exact carry_at m c t s k
  · rw [outsAt0_B m c t h0 (by omega)]; frame_out; exact carry_at m c t s k

/-- The tile before leaves what a later tile needs. -/
theorem kept_next (t : Fin cfg0.N) (h : ¬ t.val % 32 = 0) (hp : t.val - 1 < cfg0.N) :
    Kept m c t (outsAt0 m c (t.val - 1) hp).2.2.2.2.2.2 := by
  intro s k
  rw [carry m c ⟨t.val - 1, hp⟩ s k, Args.zb, if_pos (by show 8 - s.val ≤ (t.val * 256 + 0) % 8192; omega)]
  congr 1
  ext; show (t.val - 1) * 256 + (248 + s.val) = t.val * 256 + 0 - (8 - s.val); omega

/-- What each tile leaves of the two results, the kept rows being the right ones. -/
theorem tiles (t : Fin cfg0.N) : ∃ P, Kept m c t P ∧ (outsAt0 m c t.val t.isLt).1 = bOut m c t P
    ∧ (outsAt0 m c t.val t.isLt).2.1 = bNxt m c t P := by
  by_cases h0 : t.val % 32 = 0
  · refine ⟨k0_pay1 (F := Ideal), kept_first m c t h0, ?_⟩
    by_cases h1 : t.val % 128 = 0
    · rw [outsAt0_A m c t h0 h1]; frame_out; exact ⟨rfl, rfl⟩
    · rw [outsAt0_C m c t h0 h1]; frame_out; exact ⟨rfl, rfl⟩
  · have hp : t.val - 1 < cfg0.N := by have := t.isLt; omega
    rw [outsAt0_B m c t h0 (by omega)]
    frame_out
    refine ⟨_, ?_, rfl, rfl⟩
    exact (congrArg (Kept m c t) (Memref.IsWhole.read_unread _ _)).mpr (kept_next m c t h0 hp)

/-- The first result's array after the whole grid. -/
theorem final13 : (dats m 0 c).arrAt 13 cfg0.N = (args m c).OUT := by
  refine (dats m 0 c).arrAt_eq_of_covers 13 _ (by decide +kernel) fun t hf y => ?_
  blk_simp
  rw [after0_13]
  obtain ⟨P, hP, h, -⟩ := tiles m c t
  rw [h]
  idx_vars y
  rw [emb13 t y0 y1]
  exact bOut_at m c t P hP y0 y1

/-- The second result's array after the whole grid. -/
theorem final14 : (dats m 0 c).arrAt 14 cfg0.N = (args m c).NXT := by
  refine (dats m 0 c).arrAt_eq_of_covers 14 _ (by decide +kernel) fun t hf y => ?_
  blk_simp
  rw [after0_14]
  obtain ⟨P, hP, -, h⟩ := tiles m c t
  rw [h]
  idx_vars y
  rw [emb14 t y0 y1]
  exact bNxt_at m c t P hP y0 y1

/-- A run of the kernel leaves the layer's two results. -/
theorem run (g : Dev nD → PrngReg) : θ_run defs (onTc (τ := τ) (main (F := Ideal))) ⟨m, fun _ => 0, g⟩ (fun r => ∀ c : Dev nD,
    r.2.mem ((c.tc : Thread nD τ).loc main_v18_0) = (args m c).OUT ∧ r.2.mem ((c.tc : Thread nD τ).loc main_v18_1) = (args m c).NXT) :=
  θ_run_mono (run_main m g) fun r h c => ⟨((h c).1 13).trans (final13 m c), ((h c).1 14).trans (final14 m c)⟩

end Cert.ConvIdeal.Value

end
-- ==== Proof.ProjSpec.lean ====
/- The mLSTM's projections row by row: what each result is at one token and one channel, and the reference's results. -/
module

public import proofs.«01_k».proof.Proof.Gen.ProjRefIdeal.Read
public import proofs.«01_k».proof.Proof.Gen.ProjRefIdeal.Run
public import proofs.«01_k».proof.Proof.ConvSpec
public import Idealize.ShloMosaic.Lib.Pointwise
public import Idealize.ShloMosaic.Lib.StableHlo.RunHlo

@[expose] public section

set_option maxRecDepth 16384

noncomputable section

open Idealize.ShloMosaic Idealize.ShloMosaic.TcCoe Idealize.SL.Sem
open Idealize.ShloMosaic.Pipeline (Dat)
open scoped BigOperators

namespace Cert.ProjSpec

open Cert.ProjRefIdeal Cert.ProjRefIdeal.Read
open Cert.ConvSpec (bat rms)
open Cert.ConvSpec.Args (tok bat_tok tok_div)

/-- The arguments of the projections: the residual stream, the modulation, the norm's gain and the projection. -/
structure Args where
  x : FVec Ideal S32768x1024 .f32
  q : FVec Ideal S4x6x1024 .f32
  g : FVec Ideal S1024 .f32
  w : FVec Ideal S1024x3080 .f32

namespace Args
variable (A : Args)

/-- A token's row. -/
def row (R : Fin 32768) (k : Fin 1024) : EReal := A.x (ix2 R k)

/-- The normed and modulated row. -/
def inp (R : Fin 32768) (k : Fin 1024) : EReal :=
  A.row R k * rms (A.row R) * A.g (ix1 k) * (1 + A.q (ix3 (bat R) 1 k)) + A.q (ix3 (bat R) 0 k)

/-- One channel of the projection. -/
def prj (R : Fin 32768) (j : Fin 3080) : EReal := ∑ k, A.inp R k * A.w (ix2 k j)

/-- The queries, scaled by the root of the head's width. -/
def qry (R : Fin 32768) (j : Fin 512) : EReal := A.prj R ⟨j.val, by omega⟩ * Ideal.ofBits .f32 0x3DB504F3#32

/-- The keys. -/
def key (R : Fin 32768) (j : Fin 512) : EReal := A.prj R ⟨512 + j.val, by omega⟩

/-- The values. -/
def vls (R : Fin 32768) (j : Fin 1024) : EReal := A.prj R ⟨1024 + j.val, by omega⟩

/-- The output gate before its sigmoid. -/
def gate (R : Fin 32768) (j : Fin 1024) : EReal := A.prj R ⟨2048 + j.val, by omega⟩

/-- The reference's normed row. -/
theorem ref_inp (b : Fin 4) (s : Fin 8192) (k : Fin 1024) :
    val_main_v25 (F := Ideal) A.x A.q A.g (ix3 b s k) = A.inp (tok b s) k := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [inp, row, rms, bat_tok]

/-- The reference's projection. -/
theorem ref_prj (b : Fin 4) (s : Fin 8192) (j : Fin 3080) :
    val_main_v26 (F := Ideal) A.x A.q A.g A.w (ix3 b s j) = A.prj (tok b s) j := by
  pointwise [val_main_v26]
  simp only [ref_inp, prj]

/-- The reference's queries, token by token. -/
theorem ref_qry (R : Fin 32768) (j : Fin 512) : val_main_v36 (F := Ideal) A.x A.q A.g A.w (ix2 R j) = A.qry R j := by
  pointwise [val_main_v36, val_main_v35, val_main_v34, val_main_v33, val_main_v27, val_main_cst_3]
  rw [ref_prj, tok_div, qry]

/-- The reference's keys, token by token. -/
theorem ref_key (R : Fin 32768) (j : Fin 512) : val_main_v38 (F := Ideal) A.x A.q A.g A.w (ix2 R j) = A.key R j := by
  pointwise [val_main_v38, val_main_v37, val_main_v28]
  rw [ref_prj, tok_div, key]

/-- The reference's values, token by token. -/
theorem ref_vls (R : Fin 32768) (j : Fin 1024) : val_main_v40 (F := Ideal) A.x A.q A.g A.w (ix2 R j) = A.vls R j := by
  pointwise [val_main_v40, val_main_v39, val_main_v29]
  rw [ref_prj, tok_div, vls]

/-- The reference's output gate, token by token. -/
theorem ref_gate (R : Fin 32768) (j : Fin 1024) : val_main_v42 (F := Ideal) A.x A.q A.g A.w (ix2 R j) = A.gate R j := by
  pointwise [val_main_v42, val_main_v41, val_main_v30]
  rw [ref_prj, tok_div, gate]

/-- The queries as an array. -/
def QRY : FVec Ideal S32768x512 .bf16 := fun i => A.qry (i 0) (i 1)

/-- The keys as an array. -/
def KEY : FVec Ideal S32768x512 .bf16 := fun i => A.key (i 0) (i 1)

/-- The values as an array. -/
def VLS : FVec Ideal S32768x1024 .bf16 := fun i => A.vls (i 0) (i 1)

/-- The output gate as an array. -/
def GATE : FVec Ideal S32768x1024 .bf16 := fun i => A.gate (i 0) (i 1)

/-- The reference's queries. -/
theorem ref_QRY : val_main_v36 (F := Ideal) A.x A.q A.g A.w = A.QRY := by
  funext i
  idx_vars i
  exact A.ref_qry i0 i1

/-- The reference's keys. -/
theorem ref_KEY : val_main_v38 (F := Ideal) A.x A.q A.g A.w = A.KEY := by
  funext i
  idx_vars i
  exact A.ref_key i0 i1

/-- The reference's values. -/
theorem ref_VLS : val_main_v40 (F := Ideal) A.x A.q A.g A.w = A.VLS := by
  funext i
  idx_vars i
  exact A.ref_vls i0 i1

/-- The reference's output gate. -/
theorem ref_GATE : val_main_v42 (F := Ideal) A.x A.q A.g A.w = A.GATE := by
  funext i
  idx_vars i
  exact A.ref_gate i0 i1

end Args

/-- The reference's arguments as they lie in memory. -/
abbrev refArgs (m : (ℓ : Loc nD τ sig) → Buf (Elt Ideal) ℓ) (c : Dev nD) : Args where
  x := m ((c : Thread nD τ).loc main_arg0)
  q := m ((c : Thread nD τ).loc main_arg1)
  g := m ((c : Thread nD τ).loc main_arg2)
  w := m ((c : Thread nD τ).loc main_arg3)

/-- A run of the reference leaves the four results. -/
theorem run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v36) = (refArgs m c).QRY ∧ r.2.mem ((c.tc : Thread nD τ).loc main_v38) = (refArgs m c).KEY
      ∧ r.2.mem ((c.tc : Thread nD τ).loc main_v40) = (refArgs m c).VLS ∧ r.2.mem ((c.tc : Thread nD τ).loc main_v42) = (refArgs m c).GATE) :=
  θ_run_mono (Cert.ProjRefIdeal.Value.run m g) fun r h c =>
    ⟨((h c).1.trans (val_main_v36_eq ..)).trans (refArgs m c).ref_QRY, ((h c).2.1.trans (val_main_v38_eq ..)).trans (refArgs m c).ref_KEY,
      ((h c).2.2.1.trans (val_main_v40_eq ..)).trans (refArgs m c).ref_VLS, ((h c).2.2.2.1.trans (val_main_v42_eq ..)).trans (refArgs m c).ref_GATE⟩

end Cert.ProjSpec

end
-- ==== Proof.ProjValue.lean ====
/- The mLSTM's projections over exact values: the arrays the kernel leaves are the ones the reference computes. -/
module

public import proofs.«01_k».proof.Proof.Gen.ProjIdeal.Frame
public import proofs.«01_k».proof.Proof.ProjSpec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.ProjIdeal.Value

open Cert.ProjIdeal Cert.ProjIdeal.Gen
open Cert.ProjSpec (Args)
open Cert.ConvSpec (bat rms)

variable (m : (ℓ : Loc nD τ sig) → Buf (Elt Ideal) ℓ) (c : Dev nD)

/-- The arguments as they lie in memory at the launch. -/
abbrev args : Args where
  x := m ((c : Thread nD τ).loc main_arg0)
  q := m ((c : Thread nD τ).loc main_arg1)
  g := m ((c : Thread nD τ).loc main_arg2)
  w := m ((c : Thread nD τ).loc main_arg3)

/-- Where each window's block lies at grid point `t`. -/
theorem idx : ∀ t : Fin cfg0.N, win0_0.index t = ![t.val, 0] ∧ win0_1.index t = ![t.val / 16, 0, 0] ∧ win0_2.index t = ![0, 0]
    ∧ win0_3.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

theorem t_lt (t : Fin cfg0.N) : t.val < 64 := t.isLt

/-- The token that row `r` of tile `t` is. -/
abbrev row (t : Fin cfg0.N) (r : Fin 512) : Fin 32768 := ⟨t.val * 512 + r.val, by have := t_lt t; omega⟩

/-- The tile of the residual stream. -/
theorem rd0 (t : Fin cfg0.N) (r : Fin 512) (k : Fin 1024) :
    (iblk m c 0 t : FVec Ideal S512x1024 .f32) (ix2 r k) = (args m c).x (ix2 (row t r) k) := by
  blk_ext [iblk, V, idx t]

/-- The modulation of the tile's sequence. -/
theorem rd1 (t : Fin cfg0.N) (r : Fin 512) (s : Fin 6) (k : Fin 1024) :
    (iblk m c 1 t : FVec Ideal S1x6x1024 .f32) (ix3 0 s k) = (args m c).q (ix3 (bat (row t r)) s k) := by
  blk_ext [iblk, V, idx t]

/-- The norm's gain, laid as a row before the launch. -/
theorem rd2 (t : Fin cfg0.N) (k : Fin 1024) :
    (iblk m c 2 t : FVec Ideal S1x1024 .f32) (ix2 0 k) = (args m c).g (ix1 k) := by
  blk_simp [iblk]
  entry_read
  pointwise []
  blk_ext [idx t]

/-- The projection, whose columns the launch pads at the end. -/
theorem rd3 (t : Fin cfg0.N) (k : Fin 1024) (j : Fin 3200) (hj : j.val < 3080) :
    (iblk m c 3 t : FVec Ideal S1024x3200 .bf16) (ix2 k j) = (args m c).w (ix2 k ⟨j.val, hj⟩) := by
  blk_simp [iblk]
  entry_read
  pointwise []
  blk_simp [idx t]
  rw [dif_pos hj]
  blk_ext [idx t]

/-- Where each result's tile lies. -/
theorem emb5 (t : Fin cfg0.N) (r : Fin 512) (k : Fin 512) :
    ((cfg0.win 5).blk t).view.emb (ix2 r k) = (ix2 (row t r) k : S32768x512.Idx) := by
  blk_ext [idx t]

theorem emb6 (t : Fin cfg0.N) (r : Fin 512) (k : Fin 512) :
    ((cfg0.win 6).blk t).view.emb (ix2 r k) = (ix2 (row t r) k : S32768x512.Idx) := by
  blk_ext [idx t]

theorem emb7 (t : Fin cfg0.N) (r : Fin 512) (k : Fin 1024) :
    ((cfg0.win 7).blk t).view.emb (ix2 r k) = (ix2 (row t r) k : S32768x1024.Idx) := by
  blk_ext [idx t]

theorem emb8 (t : Fin cfg0.N) (r : Fin 512) (k : Fin 1024) :
    ((cfg0.win 8).blk t).view.emb (ix2 r k) = (ix2 (row t r) k : S32768x1024.Idx) := by
  blk_ext [idx t]

/-- The tile's normed and modulated rows. -/
theorem inp_at (t : Fin cfg0.N) (r : Fin 512) (k : Fin 1024) :
    k0_pay4 (F := Ideal) (iblk m c 0 t) (iblk m c 1 t) (iblk m c 2 t) (ix2 r k) = (args m c).inp (row t r) k := by
  pointwise [k0_pay4]
  simp only [rd0, rd1 m c t r, rd2, Args.inp, Args.row, rms]

/-- The tile's queries. -/
theorem qry_at (t : Fin cfg0.N) (r j : Fin 512) :
    k0_pay5 (F := Ideal) (iblk m c 0 t) (iblk m c 1 t) (iblk m c 2 t) (View.ld (iblk m c 3 t) r0_3) (ix2 r j)
      = (args m c).qry (row t r) j := by
  pointwise [k0_pay5, r0_3]
  simp only [inp_at, Args.qry, Args.prj]
  congr 1
  exact Finset.sum_congr rfl fun k _ => by rw [rd3 m c t k _ (by show j.val < 3080; omega)]

/-- The tile's keys. -/
theorem key_at (t : Fin cfg0.N) (r j : Fin 512) :
    k0_pay6 (F := Ideal) (iblk m c 0 t) (iblk m c 1 t) (iblk m c 2 t) (View.ld (iblk m c 3 t) r0_5) (ix2 r j)
      = (args m c).key (row t r) j := by
  pointwise [k0_pay6, r0_5]
  simp only [inp_at, Args.key, Args.prj]
  exact Finset.sum_congr rfl fun k _ => by rw [rd3 m c t k _ (by show 512 + j.val < 3080; omega)]

/-- The tile's values. -/
theorem vls_at (t : Fin cfg0.N) (r : Fin 512) (j : Fin 1024) :
    k0_pay7 (F := Ideal) (k0_pay4 (iblk m c 0 t) (iblk m c 1 t) (iblk m c 2 t)) (View.ld (iblk m c 3 t) r0_6) (ix2 r j)
      = (args m c).vls (row t r) j := by
  pointwise [k0_pay7, r0_6]
  simp only [inp_at, Args.vls, Args.prj]
  exact Finset.sum_congr rfl fun k _ => by rw [rd3 m c t k _ (by show 1024 + j.val < 3080; omega)]

/-- The tile's output gate. -/
theorem gate_at (t : Fin cfg0.N) (r : Fin 512) (j : Fin 1024) :
    k0_pay8 (F := Ideal) (k0_pay4 (iblk m c 0 t) (iblk m c 1 t) (iblk m c 2 t)) (View.ld (iblk m c 3 t) r0_7) (ix2 r j)
      = (args m c).gate (row t r) j := by
  pointwise [k0_pay8, r0_7]
  simp only [inp_at, Args.gate, Args.prj]
  exact Finset.sum_congr rfl fun k _ => by rw [rd3 m c t k _ (by show 2048 + j.val < 3080; omega)]

/-- The rows that the later products read are the same rows. -/
theorem inp_eq (t : Fin cfg0.N) : k0_pay14 (F := Ideal) (iblk m c 0 t) (iblk m c 1 t) (iblk m c 2 t) (iblk m c 3 t) (iblk m c 4 t)
    = k0_pay4 (iblk m c 0 t) (iblk m c 1 t) (iblk m c 2 t) := by
  rw [k0_pay14, View.ld_unit_lit, View.ld_unit_lit, View.ld_unit_lit] <;> decide

/-- The queries' array after the whole grid. -/
theorem final5 : (dats m 0 c).arrAt 5 cfg0.N = (args m c).QRY := by
  refine (dats m 0 c).arrAt_eq_of_covers 5 _ (by decide +kernel) fun t hf y => ?_
  blk_simp
  rw [after0_5]
  frame_out
  idx_vars y
  rw [emb5 t y0 y1]
  exact qry_at m c t y0 y1

/-- The keys' array after the whole grid. -/
theorem final6 : (dats m 0 c).arrAt 6 cfg0.N = (args m c).KEY := by
  refine (dats m 0 c).arrAt_eq_of_covers 6 _ (by decide +kernel) fun t hf y => ?_
  blk_simp
  rw [after0_6]
  frame_out
  idx_vars y
  rw [emb6 t y0 y1]
  exact key_at m c t y0 y1

/-- The values' array after the whole grid. -/
theorem final7 : (dats m 0 c).arrAt 7 cfg0.N = (args m c).VLS := by
  refine (dats m 0 c).arrAt_eq_of_covers 7 _ (by decide +kernel) fun t hf y => ?_
  blk_simp
  rw [after0_7]
  frame_out
  idx_vars y
  rw [emb7 t y0 y1, inp_eq]
  exact vls_at m c t y0 y1

/-- The output gate's array after the whole grid. -/
theorem final8 : (dats m 0 c).arrAt 8 cfg0.N = (args m c).GATE := by
  refine (dats m 0 c).arrAt_eq_of_covers 8 _ (by decide +kernel) fun t hf y => ?_
  blk_simp
  rw [after0_8]
  frame_out
  idx_vars y
  rw [emb8 t y0 y1, inp_eq]
  exact gate_at m c t y0 y1

/-- A run of the kernel leaves the four results. -/
theorem run (g : Dev nD → PrngReg) : θ_run defs (onTc (τ := τ) (main (F := Ideal))) ⟨m, fun _ => 0, g⟩ (fun r => ∀ c : Dev nD,
    r.2.mem ((c.tc : Thread nD τ).loc main_v9_0) = (args m c).QRY ∧ r.2.mem ((c.tc : Thread nD τ).loc main_v9_1) = (args m c).KEY
    ∧ r.2.mem ((c.tc : Thread nD τ).loc main_v9_2) = (args m c).VLS ∧ r.2.mem ((c.tc : Thread nD τ).loc main_v9_3) = (args m c).GATE) :=
  θ_run_mono (run_main m g) fun r h c => ⟨((h c).1 5).trans (final5 m c), ((h c).1 6).trans (final6 m c),
    ((h c).1 7).trans (final7 m c), ((h c).1 8).trans (final8 m c)⟩

end Cert.ProjIdeal.Value

end
-- ==== Proof.OutSpec.lean ====
/- The mLSTM's output projection row by row: what each result is at one token and one channel, and the reference's results. -/
module

public import proofs.«01_k».proof.Proof.Gen.OutRefIdeal.Read
public import proofs.«01_k».proof.Proof.Gen.OutRefIdeal.Run
public import proofs.«01_k».proof.Proof.ConvSpec
public import Idealize.ShloMosaic.Lib.Pointwise
public import Idealize.ShloMosaic.Lib.StableHlo.RunHlo

@[expose] public section

set_option maxRecDepth 16384

noncomputable section

open Idealize.ShloMosaic Idealize.ShloMosaic.TcCoe Idealize.SL.Sem
open Idealize.ShloMosaic.Pipeline (Dat)
open scoped BigOperators

namespace Cert.OutSpec

open Cert.OutRefIdeal Cert.OutRefIdeal.Read
open Cert.ConvSpec (bat rms)
open Cert.ConvSpec.Args (tok bat_tok tok_div)

/-- The arguments: the gated heads, the residual stream, the modulation, the output projection and the norm's gain. -/
structure Args where
  h : FVec Ideal S32768x1024 .bf16
  x : FVec Ideal S32768x1024 .f32
  q : FVec Ideal S4x6x1024 .f32
  w : FVec Ideal S1024x1024 .f32
  g : FVec Ideal S1024 .f32

namespace Args
variable (A : Args)

/-- The residual stream leaving the layer's first half. -/
def out (R : Fin 32768) (k : Fin 1024) : EReal :=
  A.x (ix2 R k) + A.q (ix3 (bat R) 2 k) * ∑ j, A.h (ix2 R j) * A.w (ix2 j k)

/-- The experts' input: the row, normed and modulated. -/
def nxt (R : Fin 32768) (k : Fin 1024) : EReal :=
  A.out R k * rms (A.out R) * A.g (ix1 k) * (1 + A.q (ix3 (bat R) 4 k)) + A.q (ix3 (bat R) 3 k)

/-- The reference's residual stream. -/
theorem ref_out (b : Fin 4) (s : Fin 8192) (k : Fin 1024) :
    val_main_v9 (F := Ideal) A.h A.x A.q A.w (ix3 b s k) = A.out (tok b s) k := by
  pointwise [val_main_v9, val_main_v8, val_main_v7, val_main_v6, val_main_v5, val_main_v4, val_main_v3, val_main_v2, val_main_v1, val_main_v0]
  simp only [out, bat_tok]

/-- The reference's experts' input. -/
theorem ref_nxt (b : Fin 4) (s : Fin 8192) (k : Fin 1024) :
    val_main_v34 (F := Ideal) A.h A.x A.q A.w A.g (ix3 b s k) = A.nxt (tok b s) k := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_cst, val_main_cst_0, val_main_cst_1, val_main_cst_2]
  simp only [ref_out, nxt, rms, bat_tok]

/-- The residual stream as an array. -/
def OUT : FVec Ideal S32768x1024 .f32 := fun i => A.out (i 0) (i 1)

/-- The experts' input as an array. -/
def NXT : FVec Ideal S32768x1024 .f32 := fun i => A.nxt (i 0) (i 1)

/-- The reference's first result. -/
theorem ref_OUT : val_main_v35 (F := Ideal) A.h A.x A.q A.w = A.OUT := by
  funext i
  idx_vars i
  pointwise [val_main_v35]
  rw [ref_out, tok_div]
  rfl

/-- The reference's second result. -/
theorem ref_NXT : val_main_v36 (F := Ideal) A.h A.x A.q A.w A.g = A.NXT := by
  funext i
  idx_vars i
  pointwise [val_main_v36]
  rw [ref_nxt, tok_div]
  rfl

end Args

/-- The reference's arguments as they lie in memory. -/
abbrev refArgs (m : (ℓ : Loc nD τ sig) → Buf (Elt Ideal) ℓ) (c : Dev nD) : Args where
  h := m ((c : Thread nD τ).loc main_arg0)
  x := m ((c : Thread nD τ).loc main_arg1)
  q := m ((c : Thread nD τ).loc main_arg2)
  w := m ((c : Thread nD τ).loc main_arg3)
  g := m ((c : Thread nD τ).loc main_arg4)

/-- A run of the reference leaves the two results. -/
theorem run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v35) = (refArgs m c).OUT ∧ r.2.mem ((c.tc : Thread nD τ).loc main_v36) = (refArgs m c).NXT) :=
  θ_run_mono (Cert.OutRefIdeal.Value.run m g) fun r h c =>
    ⟨((h c).1.trans (val_main_v35_eq ..)).trans (refArgs m c).ref_OUT, ((h c).2.1.trans (val_main_v36_eq ..)).trans (refArgs m c).ref_NXT⟩

end Cert.OutSpec

end
-- ==== Proof.OutValue.lean ====
/- The mLSTM's output projection over exact values: the arrays the kernel leaves are the ones the reference computes. -/
module

public import proofs.«01_k».proof.Proof.Gen.OutIdeal.Frame
public import proofs.«01_k».proof.Proof.OutSpec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.OutIdeal.Value

open Cert.OutIdeal Cert.OutIdeal.Gen
open Cert.OutSpec (Args)
open Cert.ConvSpec (bat rms)

variable (m : (ℓ : Loc nD τ sig) → Buf (Elt Ideal) ℓ) (c : Dev nD)

/-- The arguments as they lie in memory at the launch. -/
abbrev args : Args where
  h := m ((c : Thread nD τ).loc main_arg0)
  x := m ((c : Thread nD τ).loc main_arg1)
  q := m ((c : Thread nD τ).loc main_arg2)
  w := m ((c : Thread nD τ).loc main_arg3)
  g := m ((c : Thread nD τ).loc main_arg4)

/-- Where each window's block lies at grid point `t`. -/
theorem idx : ∀ t : Fin cfg0.N, win0_0.index t = ![t.val, 0] ∧ win0_1.index t = ![t.val, 0] ∧ win0_2.index t = ![t.val / 32, 0, 0]
    ∧ win0_3.index t = ![0, 0] ∧ win0_4.index t = ![0, 0] ∧ win0_8.index t = ![t.val, 0] ∧ win0_9.index t = ![t.val, 0] :=
  (by decide +kernel : ∀ t : Fin grid0.N, _)

theorem t_lt (t : Fin cfg0.N) : t.val < 128 := t.isLt

/-- The token that row `r` of tile `t` is. -/
abbrev row (t : Fin cfg0.N) (r : Fin 256) : Fin 32768 := ⟨t.val * 256 + r.val, by have := t_lt t; omega⟩

/-- The tile of the gated heads. -/
theorem rd0 (t : Fin cfg0.N) (r : Fin 256) (k : Fin 1024) :
    (iblk m c 0 t : FVec Ideal S256x1024 .bf16) (ix2 r k) = (args m c).h (ix2 (row t r) k) := by
  blk_ext [iblk, V, idx t]

/-- The tile of the residual stream. -/
theorem rd1 (t : Fin cfg0.N) (r : Fin 256) (k : Fin 1024) :
    (iblk m c 1 t : FVec Ideal S256x1024 .f32) (ix2 r k) = (args m c).x (ix2 (row t r) k) := by
  blk_ext [iblk, V, idx t]

/-- The modulation of the tile's sequence. -/
theorem rd2 (t : Fin cfg0.N) (r : Fin 256) (s : Fin 6) (k : Fin 1024) :
    (iblk m c 2 t : FVec Ideal S1x6x1024 .f32) (ix3 0 s k) = (args m c).q (ix3 (bat (row t r)) s k) := by
  blk_ext [iblk, V, idx t]

/-- The output projection. -/
theorem rd3 (t : Fin cfg0.N) (j k : Fin 1024) :
    (iblk m c 3 t : FVec Ideal S1024x1024 .bf16) (ix2 j k) = (args m c).w (ix2 j k) := by
  blk_simp [iblk]
  entry_read
  pointwise []
  blk_ext [idx t]

/-- The norm's gain, laid as a row before the launch. -/
theorem rd4 (t : Fin cfg0.N) (k : Fin 1024) :
    (iblk m c 4 t : FVec Ideal S1x1024 .f32) (ix2 0 k) = (args m c).g (ix1 k) := by
  blk_simp [iblk]
  entry_read
  pointwise []
  blk_ext [idx t]

/-- Where each result's tile lies. -/
theorem emb8 (t : Fin cfg0.N) (r : Fin 256) (k : Fin 1024) :
    ((cfg0.win 8).blk t).view.emb (ix2 r k) = (ix2 (row t r) k : S32768x1024.Idx) := by
  blk_ext [idx t]

theorem emb9 (t : Fin cfg0.N) (r : Fin 256) (k : Fin 1024) :
    ((cfg0.win 9).blk t).view.emb (ix2 r k) = (ix2 (row t r) k : S32768x1024.Idx) := by
  blk_ext [idx t]

/-- The tile's rows of the residual stream. -/
abbrev bOut (t : Fin cfg0.N) : FVec Ideal S256x1024 .f32 :=
  k0_pay6 (F := Ideal) (iblk m c 2 t) (iblk m c 1 t) (iblk m c 0 t) (iblk m c 3 t)

theorem bOut_at (t : Fin cfg0.N) (r : Fin 256) (k : Fin 1024) : bOut m c t (ix2 r k) = (args m c).out (row t r) k := by
  pointwise [bOut, k0_pay6, k0_pay5]
  simp only [rd0, rd1, rd2 m c t r, rd3, Args.out]

/-- The tile's rows of the experts' input. -/
theorem bNxt_at (t : Fin cfg0.N) (r : Fin 256) (k : Fin 1024) :
    k0_pay8 (F := Ideal) (iblk m c 2 t) (iblk m c 1 t) (iblk m c 0 t) (iblk m c 3 t) (iblk m c 4 t) (ix2 r k)
      = (args m c).nxt (row t r) k := by
  have h (k : Fin 1024) := bOut_at m c t r k
  simp only [bOut] at h
  pointwise [k0_pay8, k0_pay5]
  simp only [h, rd2 m c t r, rd4, Args.nxt, rms]

/-- What each tile leaves of the two results. -/
theorem tiles (t : Fin cfg0.N) : (outsAt0 m c t.val t.isLt).1 = bOut m c t
    ∧ (outsAt0 m c t.val t.isLt).2.1 = k0_pay8 (F := Ideal) (iblk m c 2 t) (iblk m c 1 t) (iblk m c 0 t) (iblk m c 3 t) (iblk m c 4 t) := by
  by_cases h0 : t.val % 128 = 0
  · rw [outsAt0_A m c t h0]; frame_out; constructor <;> first | rfl | trivial
  · rw [outsAt0_B m c t h0]; frame_out; constructor <;> first | rfl | trivial

/-- The residual stream's array after the whole grid. -/
theorem final8 : (dats m 0 c).arrAt 8 cfg0.N = (args m c).OUT := by
  refine (dats m 0 c).arrAt_eq_of_covers 8 _ (by decide +kernel) fun t hf y => ?_
  blk_simp
  rw [after0_8, (tiles m c t).1]
  idx_vars y
  rw [emb8 t y0 y1]
  exact bOut_at m c t y0 y1

/-- The experts' input's array after the whole grid. -/
theorem final9 : (dats m 0 c).arrAt 9 cfg0.N = (args m c).NXT := by
  refine (dats m 0 c).arrAt_eq_of_covers 9 _ (by decide +kernel) fun t hf y => ?_
  blk_simp
  rw [after0_9, (tiles m c t).2]
  idx_vars y
  rw [emb9 t y0 y1]
  exact bNxt_at m c t y0 y1

/-- A run of the kernel leaves the two results. -/
theorem run (g : Dev nD → PrngReg) : θ_run defs (onTc (τ := τ) (main (F := Ideal))) ⟨m, fun _ => 0, g⟩ (fun r => ∀ c : Dev nD,
    r.2.mem ((c.tc : Thread nD τ).loc main_v15_0) = (args m c).OUT ∧ r.2.mem ((c.tc : Thread nD τ).loc main_v15_1) = (args m c).NXT) :=
  θ_run_mono (run_main m g) fun r h c => ⟨((h c).1 8).trans (final8 m c), ((h c).1 9).trans (final9 m c)⟩

end Cert.OutIdeal.Value

end
-- ==== Proof.AdaSpec.lean ====
/- The adaptive modulation entry by entry: what it is at one layer, sequence and channel, and the reference's result. -/
module

public import proofs.«01_k».proof.Proof.Gen.AdaRefIdeal.Read
public import proofs.«01_k».proof.Proof.Gen.AdaRefIdeal.Run
public import Idealize.ShloMosaic.Lib.Pointwise
public import Idealize.ShloMosaic.Lib.StableHlo.RunHlo

@[expose] public section

set_option maxRecDepth 16384

noncomputable section

open Idealize.ShloMosaic Idealize.ShloMosaic.TcCoe Idealize.SL.Sem
open scoped BigOperators

namespace Cert.AdaSpec

open Cert.AdaRefIdeal Cert.AdaRefIdeal.Read

/-- The arguments: each sequence's condition, and each layer's projection with its bias. -/
structure Args where
  c : FVec Ideal S4x1024 .f32
  w : FVec Ideal S2x1024x6144 .f32
  b : FVec Ideal S2x6144 .f32

namespace Args
variable (A : Args)

/-- The condition through its silu. -/
def cond (s : Fin 4) (k : Fin 1024) : EReal := A.c (ix2 s k) * Ideal.div 1 (1 + Ideal.exp (-A.c (ix2 s k)))

/-- The modulation of one layer and sequence at one of the 6144 channels. -/
def mod (l : Fin 2) (s : Fin 4) (e : Fin 6144) : EReal := ∑ k, A.cond s k * A.w (ix3 l k e) + A.b (ix2 l e)

/-- The reference's sum before its reshape. -/
theorem ref_mod (l : Fin 2) (s : Fin 4) (e : Fin 6144) : val_main_v5 (F := Ideal) A.c A.w A.b (ix3 l s e) = A.mod l s e := by
  pointwise [val_main_v5, val_main_v4, val_main_v3, val_main_v2, val_main_v1, val_main_v0, val_main_call0_v5, val_main_call0_v4, val_main_call0_v3, val_main_call0_v2, val_main_call0_v1, val_main_call0_v0, val_main_call0_cst, val_main_call0_cst_0]
  simp only [mod, cond, mul_comm (A.w _)]

/-- The modulation as an array: its 6144 channels are six rows of 1024. -/
def MOD : FVec Ideal S2x4x6x1024 .f32 := fun i => A.mod (i 0) (i 1) ⟨(i 2).val * 1024 + (i 3).val, by have h2 : (i 2).val < 6 := (i 2).isLt; have h3 : (i 3).val < 1024 := (i 3).isLt; omega⟩

/-- The reference's result. -/
theorem ref_MOD : val_main_v6 (F := Ideal) A.c A.w A.b = A.MOD := by
  funext i
  have h0 : (i 0).val < 2 := (i 0).isLt
  have h1 : (i 1).val < 4 := (i 1).isLt
  have h2 : (i 2).val < 6 := (i 2).isLt
  have h3 : (i 3).val < 1024 := (i 3).isLt
  rw [val_main_v6_apply]
  refine Eq.trans (congrArg _ ?_) (A.ref_mod (i 0) (i 1) ⟨(i 2).val * 1024 + (i 3).val, by omega⟩)
  funext a
  match a with
  | ⟨0, _⟩ => exact Fin.ext (by show ((((i 0).val * 4 + (i 1).val) * 6 + (i 2).val) * 1024 + (i 3).val) / 24576 = (i 0).val; omega)
  | ⟨1, _⟩ => exact Fin.ext (by show ((((i 0).val * 4 + (i 1).val) * 6 + (i 2).val) * 1024 + (i 3).val) / 6144 % 4 = (i 1).val; omega)
  | ⟨2, _⟩ => exact Fin.ext (by show ((((i 0).val * 4 + (i 1).val) * 6 + (i 2).val) * 1024 + (i 3).val) % 6144 = (i 2).val * 1024 + (i 3).val; omega)

end Args

/-- The reference's arguments as they lie in memory. -/
abbrev refArgs (m : (ℓ : Loc nD τ sig) → Buf (Elt Ideal) ℓ) (c : Dev nD) : Args where
  c := m ((c : Thread nD τ).loc main_arg0)
  w := m ((c : Thread nD τ).loc main_arg1)
  b := m ((c : Thread nD τ).loc main_arg2)

/-- A run of the reference leaves the modulation. -/
theorem run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v6) = (refArgs m c).MOD) :=
  θ_run_mono (Cert.AdaRefIdeal.Value.run m g) fun r h c => ((h c).1.trans (val_main_v6_eq ..)).trans (refArgs m c).ref_MOD

end Cert.AdaSpec

end
-- ==== Proof.AdaValue.lean ====
/- The adaptive modulation over exact values: the array the kernel leaves is the one the reference computes. -/
module

public import proofs.«01_k».proof.Proof.Gen.AdaIdeal.Frame
public import proofs.«01_k».proof.Proof.AdaSpec
public import Idealize.ShloMosaic.Lib.Pointwise
public import Idealize.ShloMosaic.Lib.Pipeline.ValueKit
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)
open scoped BigOperators

namespace Cert.AdaIdeal.Value

open Cert.AdaIdeal Cert.AdaIdeal.Gen
open Cert.AdaSpec (Args)

variable (m : (ℓ : Loc nD τ sig) → Buf (Elt Ideal) ℓ) (c : Dev nD)

/-- The arguments as they lie in memory at the launch. -/
abbrev args : Args where
  c := m ((c : Thread nD τ).loc main_arg0)
  w := m ((c : Thread nD τ).loc main_arg1)
  b := m ((c : Thread nD τ).loc main_arg2)

/-- Update `(s, k)` of the padding's scatter lands at `(s, k)`. -/
theorem lands (s : Fin 4) (k : Fin 1024) (r : Fin 8) (e : Fin 1024) (x : IVec S1 32) (hx : ∀ i, x i = 0#32) :
    scatter_S8x1024_S1_S4x1024_01_n_0_0.resultIdx? (ix2 s k) x = some (ix2 r e) ↔ s.val = r.val ∧ k.val = e.val := by
  refine (Routing.resultIdx?_ix2 scatter_S8x1024_S1_S4x1024_01_n_0_0 (ix2 s k) x r e).trans ?_
  have h0 : scatter_S8x1024_S1_S4x1024_01_n_0_0.start (ix2 s k) x 0 = 0 := by
    unfold ScatterDims.start
    rw [dif_pos (by decide), hx]
    rfl
  have h1 : scatter_S8x1024_S1_S4x1024_01_n_0_0.start (ix2 s k) x 1 = 0 := by
    unfold ScatterDims.start
    rw [dif_neg (by decide)]
  have w0 : scatter_S8x1024_S1_S4x1024_01_n_0_0.window (ix2 s k) 0 = s.val := by
    unfold ScatterDims.window
    rw [dif_pos (by decide)]
    rfl
  have w1 : scatter_S8x1024_S1_S4x1024_01_n_0_0.window (ix2 s k) 1 = k.val := by
    unfold ScatterDims.window
    rw [dif_pos (by decide)]
    rfl
  rw [h0, h1, w0, w1]
  omega

/-- The padded condition's first four rows are the condition. -/
theorem padded (z : FVec Ideal S8x1024 .f32) (x : IVec S1 32) (hx : ∀ i, x i = 0#32) (u : FVec Ideal S4x1024 .f32)
    (s : Fin 4) (k : Fin 1024) (r : Fin 8) (hr : r.val = s.val) :
    Host.scatter scatter_S8x1024_S1_S4x1024_01_n_0_0 (fun _ b => b) z x u (ix2 r k) = u (ix2 s k) := by
  refine Routing.scatter_set_hit _ z x u (ix2 r k) _ (fun j hj => ?_) (ix2 s k) ((lands s k r k x hx).2 ⟨hr.symm, rfl⟩)
  idx_vars j
  obtain ⟨h0, h1⟩ := (lands j0 j1 r k x hx).1 hj
  obtain rfl : j0 = s := Fin.ext (h0.trans hr)
  obtain rfl : j1 = k := Fin.ext h1
  rfl

/-- Where each window's block lies at grid point `t`. -/
theorem idx : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] :=
  (by decide +kernel : ∀ t : Fin grid0.N, _)

theorem t_lt (t : Fin cfg0.N) : t.val < 8 := t.isLt

/-- The layer of grid point `t`. -/
abbrev lay (t : Fin cfg0.N) : Fin 2 := ⟨t.val / 4, by have := t_lt t; omega⟩
/-- The channel that column `e` of grid point `t`'s block is. -/
abbrev chan (t : Fin cfg0.N) (e : Fin 1536) : Fin 6144 := ⟨t.val % 4 * 1536 + e.val, by omega⟩
/-- A sequence's row of the padded condition. -/
abbrev wide (s : Fin 4) : Fin 8 := ⟨s.val, by omega⟩

/-- The padded condition: the condition set over the first four of eight rows of zeros. -/
theorem e2 : (V m c main_v2 : FVec Ideal S8x1024 .f32) = Host.scatter scatter_S8x1024_S1_S4x1024_01_n_0_0 (fun _ b => b)
    (broadcastInDim S8x1024 ![] bcast_S_S8x1024 (constant (F := Ideal) S_ .f32 0x00000000#32)) (broadcastInDim S1 ![] bcast_S_S1 (constantI S_ 32 0#32))
    (m ((c : Thread nD τ).loc main_arg0) : FVec Ideal S4x1024 .f32) := by
  simp only [V, V0, hostOps0, List.flatten_cons, List.flatten_nil, List.append_nil]
  after_results <;> rfl

/-- The bias with an axis of one row. -/
theorem e3 : (V m c main_v3 : FVec Ideal S2x1x6144 .f32) = shapeCast S2x1x6144 (m ((c : Thread nD τ).loc main_arg2) : FVec Ideal S2x6144 .f32) shapeCasts_S2x6144_S2x1x6144 := by
  simp only [V, V0, hostOps0, List.flatten_cons, List.flatten_nil, List.append_nil]
  after_results <;> rfl

/-- What the body leaves at one row and column. -/
theorem pay (x0 : FVec Ideal S8x1024 .f32) (x1 : FVec Ideal S1x1024x1536 .f32) (x2 : FVec Ideal S1x1x1536 .f32) (r : Fin 8) (e : Fin 1536) :
    k0_pay1 (F := Ideal) x0 x1 x2 (ix3 0 r e)
      = ∑ k, x0 (ix2 r k) * Ideal.div 1 (1 + Ideal.exp (-x0 (ix2 r k))) * x1 (ix3 0 k e) + x2 (ix3 0 0 e) := by
  pointwise [k0_pay1]
  simp only [zero_sub]

/-- The block of the projection. -/
theorem rd1 (t : Fin cfg0.N) (k : Fin 1024) (e : Fin 1536) :
    (iblk m c 1 t : FVec Ideal S1x1024x1536 .f32) (ix3 0 k e) = (args m c).w (ix3 (lay t) k (chan t e)) := by
  blk_ext [iblk, V, idx t]

/-- The block of the bias. -/
theorem rd2 (t : Fin cfg0.N) (e : Fin 1536) :
    (iblk m c 2 t : FVec Ideal S1x1x1536 .f32) (ix3 0 0 e) = (args m c).b (ix2 (lay t) (chan t e)) := by
  have key (l : Fin 2) (e : Fin 6144) : (V m c main_v3 : FVec Ideal S2x1x6144 .f32) (ix3 l 0 e) = (args m c).b (ix2 l e) := by
    rw [e3]
    exact shapeCast_apply _ shapeCasts_S2x6144_S2x1x6144 (ix3 l 0 e) (ix2 l e)
      (by rewrite [Shape.rowMajor_val_three, Shape.rowMajor_val_two]; show l.val * 6144 + e.val = (l.val * 1 + 0) * 6144 + e.val; omega)
  rw [← key]
  blk_ext [iblk, idx t]

/-- Where the result's block lies. -/
theorem emb3 (t : Fin cfg0.N) (r : Fin 8) (e : Fin 1536) :
    ((cfg0.win 3).blk t).view.emb (ix3 0 r e) = (ix3 (lay t) r (chan t e) : S2x8x6144.Idx) := by
  blk_ext [idx t]

/-- The padded condition as the launch finds it. -/
abbrev pad : FVec Ideal S8x1024 .f32 := V m c main_v2

/-- The kernel's result over the padded rows, one layer's row at one channel. -/
def full (l : Fin 2) (r : Fin 8) (e : Fin 6144) : EReal :=
  ∑ k, pad m c (ix2 r k) * Ideal.div 1 (1 + Ideal.exp (-pad m c (ix2 r k))) * (args m c).w (ix3 l k e) + (args m c).b (ix2 l e)

/-- The padded rows' result as an array. -/
def FULL : FVec Ideal S2x8x6144 .f32 := fun i => full m c (i 0) (i 1) (i 2)

/-- The window over the whole padded condition. -/
theorem rdp (t : Fin cfg0.N) (r : Fin 8) (k : Fin 1024) : (iblk m c 0 t : FVec Ideal S8x1024 .f32) (ix2 r k) = pad m c (ix2 r k) := by
  blk_ext [iblk, idx t]

/-- A grid point's block of the padded rows' result. -/
theorem pay_at (t : Fin cfg0.N) (r : Fin 8) (e : Fin 1536) :
    k0_pay1 (F := Ideal) (iblk m c 0 t) (iblk m c 1 t) (iblk m c 2 t) (ix3 0 r e) = full m c (lay t) r (chan t e) := by
  rw [pay]
  simp only [rdp m c t, rd1 m c t, rd2 m c t, full]

/-- The kernel's array after the whole grid. -/
theorem final3 : (dats m 0 c).arrAt 3 cfg0.N = FULL m c := by
  refine (dats m 0 c).arrAt_eq_of_covers 3 _ (by decide +kernel) fun t hf y => ?_
  blk_simp
  rw [after0_3]
  have key : ∀ y : S1x8x1536.Idx, out0_3 (F := Ideal) (iblk m c 0 t) (iblk m c 1 t) (iblk m c 2 t) y = FULL m c ((win0_3.blk t).view.emb y) := fun y => by
    have hy : y = ix3 0 (y 1) (y 2) := by
      funext a
      match a with
      | ⟨0, _⟩ => exact Subsingleton.elim (α := Fin 1) _ _
      | ⟨1, _⟩ => rfl
      | ⟨2, _⟩ => rfl
    rw [hy]
    refine Eq.trans ?_ (congrArg (FULL m c) (emb3 t (y 1) (y 2))).symm
    refine Eq.trans ?_ (pay_at m c t (y 1) (y 2))
    unfold out0_3
    frame_out
    rfl
  exact key y

/-- The result after the two lines that follow the launch: the first four rows, their channels in six rows of 1024. -/
theorem tail : Pipeline.afterTail₀ cfgs (dats m) 0 (V0 m) [hostOps1] c main_v6
    = shapeCast S2x4x6x1024 (extractStridedSlice S2x4x6144 ![0, 0, 0] (FULL m c) slices_S2x8x6144_S2x4x6144_0_0_0) shapeCasts_S2x4x6144_S2x4x6x1024 := by
  have h : Pipeline.withArrays cfg0.spec c (V0 m c) (fun w => (dats m 0 c).arrAt w cfg0.N) (Proc.devRef .tc main_v4) = FULL m c :=
    (Pipeline.withArrays_arr spec0 launch0.win.arr_inj c (V0 m c) (fun w => (dats m 0 c).arrAt w cfg0.N) 3).trans (final3 m c)
  unfold Pipeline.afterTail₀
  generalize Pipeline.withArrays cfg0.spec c (V0 m c) (fun w => (dats m 0 c).arrAt w cfg0.N) = W at h
  show StableHlo.after (List.flatten [hostOps1]) W (Proc.devRef .tc main_v6) = _
  simp only [hostOps1, List.flatten_cons, List.flatten_nil, List.append_nil]
  rw [← h]
  after_results <;> rfl

/-- The padded condition's row of a sequence. -/
theorem pad_at (s : Fin 4) (k : Fin 1024) : pad m c (ix2 (wide s) k) = (args m c).c (ix2 s k) :=
  (congrFun (e2 m c) _).trans (padded _ _ (fun _ => rfl) _ s k (wide s) rfl)

/-- A sequence's row of the result is its modulation. -/
theorem full_at (l : Fin 2) (s : Fin 4) (e : Fin 6144) : full m c l (wide s) e = (args m c).mod l s e := by
  unfold full Args.mod Args.cond
  refine congrArg (· + (args m c).b (ix2 l e)) (Finset.sum_congr rfl fun k _ => ?_)
  exact congrArg (fun z : EReal => z * Ideal.div 1 (1 + Ideal.exp (-z)) * (args m c).w (ix3 l k e)) (pad_at m c s k)

/-- The result's array is the modulation. -/
theorem tail_MOD : Pipeline.afterTail₀ cfgs (dats m) 0 (V0 m) [hostOps1] c main_v6 = (args m c).MOD := by
  rw [tail]
  funext i
  have h0 : (i 0).val < 2 := (i 0).isLt
  have h1 : (i 1).val < 4 := (i 1).isLt
  have h2 : (i 2).val < 6 := (i 2).isLt
  have h3 : (i 3).val < 1024 := (i 3).isLt
  refine (shapeCast_apply _ shapeCasts_S2x4x6144_S2x4x6x1024 i (ix3 ⟨(i 0).val, h0⟩ ⟨(i 1).val, h1⟩ ⟨(i 2).val * 1024 + (i 3).val, by omega⟩)
    (by rewrite [Shape.rowMajor_val_three, Shape.rowMajor_val_four]; show ((i 0).val * 4 + (i 1).val) * 6144 + ((i 2).val * 1024 + (i 3).val) = (((i 0).val * 4 + (i 1).val) * 6 + (i 2).val) * 1024 + (i 3).val; omega)).trans ?_
  refine Eq.trans ?_ (full_at m c ⟨(i 0).val, h0⟩ ⟨(i 1).val, h1⟩ ⟨(i 2).val * 1024 + (i 3).val, by omega⟩)
  exact extractStridedSlice_apply _ (FULL m c) slices_S2x8x6144_S2x4x6144_0_0_0 _ (ix3 ⟨(i 0).val, h0⟩ (wide ⟨(i 1).val, h1⟩) ⟨(i 2).val * 1024 + (i 3).val, by omega⟩)
    (fun a => match a with
      | ⟨0, _⟩ => by show (i 0).val = 0 + (i 0).val; omega
      | ⟨1, _⟩ => by show (i 1).val = 0 + (i 1).val; omega
      | ⟨2, _⟩ => by show (i 2).val * 1024 + (i 3).val = 0 + ((i 2).val * 1024 + (i 3).val); omega)

/-- A run of the kernel leaves the modulation. -/
theorem run (g : Dev nD → PrngReg) : θ_run defs (onTc (τ := τ) (main (F := Ideal))) ⟨m, fun _ => 0, g⟩ (fun r => ∀ c : Dev nD,
    r.2.mem ((c.tc : Thread nD τ).loc main_v6) = (args m c).MOD) :=
  θ_run_mono (run_main m g) fun r h c => ((h c).2 main_v6 (Pipeline.mem_restRefs_of main_v6 (by decide) (by decide))).trans (tail_MOD m c)

end Cert.AdaIdeal.Value

end
-- ==== Proof.ExpertsIdealFrame.lean ====
/- The frame of the grouped experts' call, at any interpretation of the floats and for any contents of the three
   prefetched tables that keep every block inside its array. -/
module

public import proofs.«01_k».proof.Proof.Gen.ExpertsIdeal.Launch
public import proofs.«01_k».proof.Proof.Gen.ExpertsIdeal.Skeleton
public import proofs.«01_k».proof.Proof.Gen.ExpertsIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ExpertsIdeal.Region

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## @main up to the region -/

/-- Core `c`'s TensorCore buffers when the region is entered: after the host operations `hostOps0` of the program. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the call: the host operations, then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the call is entered. -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The call's side condition on the tables' contents: every block is inside its array at every grid point. -/
abbrev Ok : Prop := ok0 (F := F) (tbl m)
/-- The tables' contents with that condition, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S152 .i32 := Memref.whole main_arg0
abbrev htbM0_0 : tbM0_0.IsWhole := Memref.isWhole_whole _
abbrev tbM0_1 : Memref sig .tc .smem S152 .i32 := Memref.whole main_arg1
abbrev htbM0_1 : tbM0_1.IsWhole := Memref.isWhole_whole _
abbrev tbM0_2 : Memref sig .tc .smem S1 .i32 := Memref.whole main_arg2
abbrev htbM0_2 : tbM0_2.IsWhole := Memref.isWhole_whole _

/-- A table's contents on core `c`, and the half share of it the body holds (the pipeline keeps the other half). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the body is handed and gives back. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the call finds it; where it lies depends on the tables. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point, fetched there or kept from the point before. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or kept from the point before. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or kept from the point before. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or kept from the point before. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or kept from the point before. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or kept from the point before. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or kept from the point before. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or kept from the point before. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or kept from the point before. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From what a run leaves of every array: the arguments end as they were. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 0).trans (((dats 0 c).arrAt_in 0 rfl _).trans ((hA c 0).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

/-! ## The body's branch conditions -/

/-- The body's test: the grid point is less than the number of used tiles, a word read from the third table. -/
abbrev cond0_0 (i : grid0.Coords) (v2 : BitVec 32) : Prop := (Scalar.cmpi .ne (Scalar.extui (Scalar.cmpi .slt (BitVec.ofNat 32 (i 0).val) v2)) 0#32) = 1#1

/-! ## The kernel's body on any staging buffers -/

/-- A staging buffer of the output window, through which its contents are stated (which one does not matter). -/
abbrev VO0_9 : View sig .tc .vmem S256x1024 .f32 := (Memref.whole cc0_stg9_0 : Memref sig .tc .vmem S256x1024 .f32).view
/-- Each window's staging buffer at point `t`, and that it is a whole buffer. -/
abbrev ms0_0 (hO : Ok m) (t : Fin (cfgM m hO).N) : Memref sig .tc .vmem S256x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024x512 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x512 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x512x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x1024 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x1024 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S256x1024 .f32 := spec0_9.stage ((cfgM m hO).slots t 9)
abbrev hs0_9 (hO : Ok m) (t : Fin (cfgM m hO).N) : (ms0_9 m hO t).IsWhole := hstage0_9 (((cfgM m hO).slots t 9).cast nbuf0_9)

set_option maxHeartbeats 1000000 in
/-- What the body stores in the output's buffer when the tile is used, as pieces, last first; with the proof that the body,
    on inputs at their contents and an output at anything, ends with the inputs as they were and these pieces written. -/
noncomputable def kernelRun0_A (c : Dev nD) (i : grid0.Coords) (arg4 : Memref sig .tc .vmem S256x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1x1024x512 .bf16) (harg8 : arg8.IsWhole) (arg9 : Memref sig .tc .vmem S1x1024x512 .bf16) (harg9 : arg9.IsWhole) (arg10 : Memref sig .tc .vmem S1x512x1024 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .f32) (harg13 : arg13.IsWhole)
    (x0 : Vec F S256x1024 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (x7 : Vec F S1x1x1024 .f32) (x8 : Vec F S1x1x1024 .f32) (xt0 : TbBuf0 (F := F) c tbM0_0) (xt1 : TbBuf0 (F := F) c tbM0_1) (xt2 : TbBuf0 (F := F) c tbM0_2) (hc0 : cond0_0 i (tbM0_2.view.readAt (Elt F) (Rect.unit (s := S1) ![0] S1.size inb_S1_S1_0).toLoadRect xt2 (Shape.Idx.first (numel1_S1.symm ▸ Nat.one_pos)))) :
    { L9 : List (View.Piece (Elt F) S256x1024 .f32) //
      ∀ (E : Set ℕ) (K : PUnit → sProp (MT nD τ sig Unit (Elt F) ℕ (UR sig nD τ) ℕ)),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ f, arg13.view.loc (c : Thread nD τ) ↦[arg13.view.set]{fullShare} arg13.view.writes (Elt F) f L9) ∗ tbPt0 c tbM0_0 xt0 ∗ tbPt0 c tbM0_1 xt1 ∗ tbPt0 c tbM0_2 xt2) -∗ K ⟨⟩))
          ⊢ wp frame (wpE (defs₀ (F := F)) Variants.none c none) E (cc0_grouped_experts i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, fun E K => ?run⟩
  case run =>
    simp only [cc0_grouped_experts_eq_skeleton]; unfold cc0_grouped_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec (disch := first | sl_exact hc0)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]; · iexists _; iexact H9
    isplitl [HT0]; · iexact HT0
    isplitl [HT1]; · iexact HT1
    iexact HT2

set_option maxHeartbeats 1000000 in
/-- The same when the tile is not used. -/
noncomputable def kernelRun0_B (c : Dev nD) (i : grid0.Coords) (arg4 : Memref sig .tc .vmem S256x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1x1024x512 .bf16) (harg8 : arg8.IsWhole) (arg9 : Memref sig .tc .vmem S1x1024x512 .bf16) (harg9 : arg9.IsWhole) (arg10 : Memref sig .tc .vmem S1x512x1024 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .f32) (harg13 : arg13.IsWhole)
    (x0 : Vec F S256x1024 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (x7 : Vec F S1x1x1024 .f32) (x8 : Vec F S1x1x1024 .f32) (xt0 : TbBuf0 (F := F) c tbM0_0) (xt1 : TbBuf0 (F := F) c tbM0_1) (xt2 : TbBuf0 (F := F) c tbM0_2) (hc0 : ¬cond0_0 i (tbM0_2.view.readAt (Elt F) (Rect.unit (s := S1) ![0] S1.size inb_S1_S1_0).toLoadRect xt2 (Shape.Idx.first (numel1_S1.symm ▸ Nat.one_pos)))) :
    { L9 : List (View.Piece (Elt F) S256x1024 .f32) //
      ∀ (E : Set ℕ) (K : PUnit → sProp (MT nD τ sig Unit (Elt F) ℕ (UR sig nD τ) ℕ)),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ f, arg13.view.loc (c : Thread nD τ) ↦[arg13.view.set]{fullShare} arg13.view.writes (Elt F) f L9) ∗ tbPt0 c tbM0_0 xt0 ∗ tbPt0 c tbM0_1 xt1 ∗ tbPt0 c tbM0_2 xt2) -∗ K ⟨⟩))
          ⊢ wp frame (wpE (defs₀ (F := F)) Variants.none c none) E (cc0_grouped_experts i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, fun E K => ?run⟩
  case run =>
    simp only [cc0_grouped_experts_eq_skeleton]; unfold cc0_grouped_experts_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec (disch := first | sl_exact hc0)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]; · iexists _; iexact H9
    isplitl [HT0]; · iexact HT0
    isplitl [HT1]; · iexact HT1
    iexact HT2

/-- The pieces of a used tile cover the output's block. -/
theorem cover0_A_9 (c : Dev nD) (i : grid0.Coords) (arg4 : Memref sig .tc .vmem S256x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1x1024x512 .bf16) (harg8 : arg8.IsWhole) (arg9 : Memref sig .tc .vmem S1x1024x512 .bf16) (harg9 : arg9.IsWhole) (arg10 : Memref sig .tc .vmem S1x512x1024 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .f32) (harg13 : arg13.IsWhole)
    (x0 : Vec F S256x1024 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (x7 : Vec F S1x1x1024 .f32) (x8 : Vec F S1x1x1024 .f32) (xt0 : TbBuf0 (F := F) c tbM0_0) (xt1 : TbBuf0 (F := F) c tbM0_1) (xt2 : TbBuf0 (F := F) c tbM0_2) (hc0 : cond0_0 i (tbM0_2.view.readAt (Elt F) (Rect.unit (s := S1) ![0] S1.size inb_S1_S1_0).toLoadRect xt2 (Shape.Idx.first (numel1_S1.symm ▸ Nat.one_pos)))) (y : S256x1024.Idx) :
    ∃ pc ∈ (kernelRun0_A c i arg4 harg4 arg5 harg5 arg6 harg6 arg7 harg7 arg8 harg8 arg9 harg9 arg10 harg10 arg11 harg11 arg12 harg12 arg13 harg13 x0 x1 x2 x3 x4 x5 x6 x7 x8 xt0 xt1 xt2 hc0).1, y ∈ pc.1.set :=
  View.cover_of_tiledL (kernelRun0_A c i arg4 harg4 arg5 harg5 arg6 harg6 arg7 harg7 arg8 harg8 arg9 harg9 arg10 harg10 arg11 harg11 arg12 harg12 arg13 harg13 x0 x1 x2 x3 x4 x5 x6 x7 x8 xt0 xt1 xt2 hc0).1 S256x1024.size (by sl_kernel_rfl) y

/-- What a used tile leaves in the output's buffer: its pieces, read back. -/
def out0_A_9 (c : Dev nD) (i : grid0.Coords) (arg4 : Memref sig .tc .vmem S256x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1x1024x512 .bf16) (harg8 : arg8.IsWhole) (arg9 : Memref sig .tc .vmem S1x1024x512 .bf16) (harg9 : arg9.IsWhole) (arg10 : Memref sig .tc .vmem S1x512x1024 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .f32) (harg13 : arg13.IsWhole)
    (x0 : Vec F S256x1024 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (x7 : Vec F S1x1x1024 .f32) (x8 : Vec F S1x1x1024 .f32) (xt0 : TbBuf0 (F := F) c tbM0_0) (xt1 : TbBuf0 (F := F) c tbM0_1) (xt2 : TbBuf0 (F := F) c tbM0_2) (hc0 : cond0_0 i (tbM0_2.view.readAt (Elt F) (Rect.unit (s := S1) ![0] S1.size inb_S1_S1_0).toLoadRect xt2 (Shape.Idx.first (numel1_S1.symm ▸ Nat.one_pos)))) : Vec F S256x1024 .f32 :=
  VO0_9.read (Elt F) (VO0_9.writes (Elt F) VO0_9.junk (kernelRun0_A c i arg4 harg4 arg5 harg5 arg6 harg6 arg7 harg7 arg8 harg8 arg9 harg9 arg10 harg10 arg11 harg11 arg12 harg12 arg13 harg13 x0 x1 x2 x3 x4 x5 x6 x7 x8 xt0 xt1 xt2 hc0).1)

/-- The pieces of an unused tile cover the output's block. -/
theorem cover0_B_9 (c : Dev nD) (i : grid0.Coords) (arg4 : Memref sig .tc .vmem S256x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1x1024x512 .bf16) (harg8 : arg8.IsWhole) (arg9 : Memref sig .tc .vmem S1x1024x512 .bf16) (harg9 : arg9.IsWhole) (arg10 : Memref sig .tc .vmem S1x512x1024 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .f32) (harg13 : arg13.IsWhole)
    (x0 : Vec F S256x1024 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (x7 : Vec F S1x1x1024 .f32) (x8 : Vec F S1x1x1024 .f32) (xt0 : TbBuf0 (F := F) c tbM0_0) (xt1 : TbBuf0 (F := F) c tbM0_1) (xt2 : TbBuf0 (F := F) c tbM0_2) (hc0 : ¬cond0_0 i (tbM0_2.view.readAt (Elt F) (Rect.unit (s := S1) ![0] S1.size inb_S1_S1_0).toLoadRect xt2 (Shape.Idx.first (numel1_S1.symm ▸ Nat.one_pos)))) (y : S256x1024.Idx) :
    ∃ pc ∈ (kernelRun0_B c i arg4 harg4 arg5 harg5 arg6 harg6 arg7 harg7 arg8 harg8 arg9 harg9 arg10 harg10 arg11 harg11 arg12 harg12 arg13 harg13 x0 x1 x2 x3 x4 x5 x6 x7 x8 xt0 xt1 xt2 hc0).1, y ∈ pc.1.set :=
  View.cover_of_tiledL (kernelRun0_B c i arg4 harg4 arg5 harg5 arg6 harg6 arg7 harg7 arg8 harg8 arg9 harg9 arg10 harg10 arg11 harg11 arg12 harg12 arg13 harg13 x0 x1 x2 x3 x4 x5 x6 x7 x8 xt0 xt1 xt2 hc0).1 S256x1024.size (by sl_kernel_rfl) y

/-- What an unused tile leaves in the output's buffer. -/
def out0_B_9 (c : Dev nD) (i : grid0.Coords) (arg4 : Memref sig .tc .vmem S256x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1x1024x512 .bf16) (harg8 : arg8.IsWhole) (arg9 : Memref sig .tc .vmem S1x1024x512 .bf16) (harg9 : arg9.IsWhole) (arg10 : Memref sig .tc .vmem S1x512x1024 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .f32) (harg13 : arg13.IsWhole)
    (x0 : Vec F S256x1024 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (x7 : Vec F S1x1x1024 .f32) (x8 : Vec F S1x1x1024 .f32) (xt0 : TbBuf0 (F := F) c tbM0_0) (xt1 : TbBuf0 (F := F) c tbM0_1) (xt2 : TbBuf0 (F := F) c tbM0_2) (hc0 : ¬cond0_0 i (tbM0_2.view.readAt (Elt F) (Rect.unit (s := S1) ![0] S1.size inb_S1_S1_0).toLoadRect xt2 (Shape.Idx.first (numel1_S1.symm ▸ Nat.one_pos)))) : Vec F S256x1024 .f32 :=
  VO0_9.read (Elt F) (VO0_9.writes (Elt F) VO0_9.junk (kernelRun0_B c i arg4 harg4 arg5 harg5 arg6 harg6 arg7 harg7 arg8 harg8 arg9 harg9 arg10 harg10 arg11 harg11 arg12 harg12 arg13 harg13 x0 x1 x2 x3 x4 x5 x6 x7 x8 xt0 xt1 xt2 hc0).1)

/-! ## What the outputs hold after each point -/

/-- What the output's buffer holds after the body at point `t`, by whether the tile is used. -/
def outsAt0 (hO : Ok m) (c : Dev nD) (t : Fin (cfgM m hO).N) : Vec F S256x1024 .f32 :=
  if h0 : cond0_0 (grid0.coords t) (tbM0_2.view.readAt (Elt F) (Rect.unit (s := S1) ![0] S1.size inb_S1_S1_0).toLoadRect (tbl m 2) (Shape.Idx.first (numel1_S1.symm ▸ Nat.one_pos))) then
    out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (tbl m 2) h0
  else
    out0_B_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (tbl m 2) h0

/-- It at a used tile. -/
theorem outsAt0_A (hO : Ok m) (c : Dev nD) (t : Fin (cfgM m hO).N) (h0 : cond0_0 (grid0.coords t) (tbM0_2.view.readAt (Elt F) (Rect.unit (s := S1) ![0] S1.size inb_S1_S1_0).toLoadRect (tbl m 2) (Shape.Idx.first (numel1_S1.symm ▸ Nat.one_pos)))) :
    outsAt0 m hO c t = out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (tbl m 2) h0 := by
  unfold outsAt0; exact (dif_pos h0).trans rfl

/-- It at an unused tile. -/
theorem outsAt0_B (hO : Ok m) (c : Dev nD) (t : Fin (cfgM m hO).N) (h0 : ¬cond0_0 (grid0.coords t) (tbM0_2.view.readAt (Elt F) (Rect.unit (s := S1) ![0] S1.size inb_S1_S1_0).toLoadRect (tbl m 2) (Shape.Idx.first (numel1_S1.symm ▸ Nat.one_pos)))) :
    outsAt0 m hO c t = out0_B_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (tbl m 2) h0 := by
  unfold outsAt0; exact (dif_neg h0).trans rfl

/-! ## The pipeline's proof data -/

/-- The data of the pipeline on core `c`: the arrays as the call finds them; after the body at point `t` each input's buffer
    at its block and the output's at `outsAt0`; nothing owed; each input's share of its array (an array that several
    windows read is dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => (outsAt0 m hO c t)
  Φ _ := iprop(Pipeline.ΦA spec0 c ∗ Pipeline.ΦT pre0 (tbl m) c)
  q w := Pipeline.shareOf spec0 w
  owed _ := 0

/-- Its arrays are those the call finds. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = (outsAt0 m hO c t) := by dsimp only [dats]; try rfl

/-- Each input's buffer holds its block before the body. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t`, -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t))

set_option maxHeartbeats 1600000 in
/-- The body at any point, by whether the tile is used. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9]
  rw [show (dats m hO 0 c).Φ t.castSucc = iprop(Pipeline.ΦA spec0 c ∗ Pipeline.ΦT pre0 (tbl m) c) from rfl, PhiT0_eq]
  by_cases h0 : cond0_0 (grid0.coords t) (tbM0_2.view.readAt (Elt F) (Rect.unit (s := S1) ![0] S1.size inb_S1_S1_0).toLoadRect (tbl m 2) (Shape.Idx.first (numel1_S1.symm ▸ Nat.one_pos)))
  · rw [outsAt0_A m hO c t h0]
    unfold out0_A_9
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (tbl m 2) h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HT0]; · iexact HT0
    isplitl [HT1]; · iexact HT1
    isplitl [HT2]; · iexact HT2
    iintro ⟨H0, H1, H2, H3, H4, H5, H6, H7, H8, ⟨%e9, H9⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _)
  · rw [outsAt0_B m hO c t h0]
    unfold out0_B_9
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (tbl m 2) h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HT0]; · iexact HT0
    isplitl [HT1]; · iexact HT1
    isplitl [HT2]; · iexact HT2
    iintro ⟨H0, H1, H2, H3, H4, H5, H6, H7, H8, ⟨%e9, H9⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _ _ _ _)

/-- The body at point `t`. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body's obligation at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
/-- A run ends with every array at what the pipeline's data say, and every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- The same without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- A run leaves the arguments as they were and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.ExpertsIdeal.Region

end
-- ==== Proof.ExpertsOk.lean ====
/- The experts' call: tables that name experts keep every block of the call inside its array. -/
module

public import proofs.«01_k».proof.Proof.ExpertsFrame
public import proofs.«01_k».proof.Proof.ExpertsIdealFrame
public import Idealize.ShloMosaic.Lib.Pointwise

@[expose] public section

set_option maxRecDepth 16384

noncomputable section

open Idealize.ShloMosaic Idealize.ShloMosaic.TcCoe Idealize.SL.Sem

namespace Cert.ExpertsOk

/-- A block that is one slab of a stack of sixteen is inside it, and is whole words of it. -/
theorem slab {K J : ℕ} (ix : Fin 3 → ℕ) (w : ℕ) (hw : w < 16) (e : ix = ![w, 0, 0]) (P : Prop) (p : ℕ) :
    ∃ h : (∀ a, (ix a + 1) * (⟨3, ![1, K, J]⟩ : Shape).size a ≤ (⟨3, ![16, K, J]⟩ : Shape).size a),
      P ∨ (Rect.block (s := ⟨3, ![16, K, J]⟩) (⟨3, ![1, K, J]⟩ : Shape).size ix h).WholeWords p := by
  subst e
  refine ⟨fun a => ?_, .inr (.inr ⟨(by decide : 2 ≤ 3), rfl, Nat.zero_mul _, rfl⟩)⟩
  match a with
  | ⟨0, _⟩ => show (w + 1) * 1 ≤ 16; omega
  | ⟨1, _⟩ => show (0 + 1) * K ≤ K; omega
  | ⟨2, _⟩ => show (0 + 1) * J ≤ J; omega

/-- The lesser of a tile's number and the last used tile is a tile. -/
theorem last_lt (T : Fin 152) (w : BitVec 32) (h : 1 ≤ w.toInt) : (Scalar.minsi (BitVec.ofNat 32 T.val) (Scalar.subi w 1#32)).toNat < 152 := by
  have hT := T.isLt
  have ht : (BitVec.ofNat 32 T.val).toInt = (T.val : ℤ) := by
    rw [BitVec.toInt_eq_toNat_cond, BitVec.toNat_ofNat, Nat.mod_eq_of_lt (by omega), if_pos (by omega)]
  have hw := w.isLt
  have hn : w.toNat < 2 ^ 31 ∧ 1 ≤ w.toNat := by
    rw [BitVec.toInt_eq_toNat_cond] at h; split at h <;> omega
  have hs : (w - 1#32).toNat = w.toNat - 1 := by
    rw [BitVec.toNat_sub]; simp only [BitVec.toNat_ofNat]; omega
  have hi : (w - 1#32).toInt = (w.toNat : ℤ) - 1 := by
    rw [BitVec.toInt_eq_toNat_cond, hs, if_pos (by omega)]; omega
  show (IntOp.minsi (BitVec.ofNat 32 T.val) (w - 1#32)).toNat < 152
  unfold IntOp.minsi
  simp only [BitVec.slt_eq_decide, BitVec.sle_eq_decide, decide_eq_true_eq, ht, hi]
  split
  · rw [BitVec.toNat_ofNat, Nat.mod_eq_of_lt (by omega)]; omega
  · rw [hs]; omega

/-- For a used tile it is the tile itself. -/
theorem last_eq (T : Fin 152) (w : BitVec 32) (h : (T.val : ℤ) < w.toInt) :
    (Scalar.minsi (BitVec.ofNat 32 T.val) (Scalar.subi w 1#32)).toNat = T.val := by
  have hT := T.isLt
  have ht : (BitVec.ofNat 32 T.val).toInt = (T.val : ℤ) := by
    rw [BitVec.toInt_eq_toNat_cond, BitVec.toNat_ofNat, Nat.mod_eq_of_lt (by omega), if_pos (by omega)]
  have hw := w.isLt
  have hn : w.toNat < 2 ^ 31 ∧ T.val < w.toNat := by
    rw [BitVec.toInt_eq_toNat_cond] at h; split at h <;> omega
  have hs : (w - 1#32).toNat = w.toNat - 1 := by
    rw [BitVec.toNat_sub]; simp only [BitVec.toNat_ofNat]; omega
  have hi : (w - 1#32).toInt = (w.toNat : ℤ) - 1 := by
    rw [BitVec.toInt_eq_toNat_cond, hs, if_pos (by omega)]; omega
  show (IntOp.minsi (BitVec.ofNat 32 T.val) (w - 1#32)).toNat = T.val
  unfold IntOp.minsi
  simp only [BitVec.slt_eq_decide, BitVec.sle_eq_decide, decide_eq_true_eq, ht, hi]
  split
  · rw [BitVec.toNat_ofNat, Nat.mod_eq_of_lt (by omega)]
  · rw [hs]; omega

end Cert.ExpertsOk

namespace Cert.Experts.Region

open Cert.Experts Cert.Experts.Gen

variable {F : FTy → Type} [FloatOps F] (pf : pre0.Contents (Elt F)) (i : grid0.Coords)

/-- The tile a grid point is. -/
abbrev tl : Fin 152 := i 0

/-- The three tables. -/
abbrev ta (pf : pre0.Contents (Elt F)) : IVec S152 32 := pf 0
abbrev tb (pf : pre0.Contents (Elt F)) : IVec S152 32 := pf 1
abbrev tn (pf : pre0.Contents (Elt F)) : IVec S1 32 := pf 2

/-- The word of a table at a grid point. -/
theorem at0 : pf.at 0 (Rect.unit (s := S152) ![(Scalar.indexCast (BitVec.ofNat 32 (i 0).val)).toNat] S1.size (k0_off1_inb i)) numel1_S1 = ta pf (ix1 (tl i)) := by
  have hi : (i 0).val < 152 := (i 0).isLt
  refine congrArg (ta pf) (funext fun a => Fin.ext ?_)
  match a with
  | ⟨0, _⟩ => show (BitVec.ofNat 32 (i 0).val).toNat + 1 * 0 = (i 0).val; rw [BitVec.toNat_ofNat]; omega

theorem at1 : pf.at 1 (Rect.unit (s := S152) ![(Scalar.indexCast (BitVec.ofNat 32 (i 0).val)).toNat] S1.size (k0_off1_inb i)) numel1_S1 = tb pf (ix1 (tl i)) := by
  have hi : (i 0).val < 152 := (i 0).isLt
  refine congrArg (tb pf) (funext fun a => Fin.ext ?_)
  match a with
  | ⟨0, _⟩ => show (BitVec.ofNat 32 (i 0).val).toNat + 1 * 0 = (i 0).val; rw [BitVec.toNat_ofNat]; omega

/-- The number of used tiles. -/
theorem at2 : pf.at 2 (Rect.unit (s := S1) ![0] S1.size inb_S1_S1_0) numel1_S1 = tn pf (ix1 0) :=
  congrArg (tn pf) (funext fun a => Fin.ext (by match a with | ⟨0, _⟩ => rfl))

/-- The block of the rows. -/
theorem tr0 : cc0_transform_0 inb_S1_S1_0 numel1_S1 pf i = ![(Scalar.minsi (BitVec.ofNat 32 (tl i).val) (Scalar.subi (tn pf (ix1 0)) 1#32)).toNat, 0] := by
  exact congrArg (fun w : BitVec 32 => ![(Scalar.minsi (BitVec.ofNat 32 (tl i).val) (Scalar.subi w 1#32)).toNat, 0]) (at2 pf)

/-- The blocks of the first expert. -/
theorem tr1 : cc0_transform_1 k0_off1_inb numel1_S1 pf i = ![(ta pf (ix1 (tl i))).toNat, 0, 0] := by
  exact congrArg (fun w : BitVec 32 => ![w.toNat, 0, 0]) (at0 pf i)

/-- The blocks of the second expert. -/
theorem tr4 : cc0_transform_4 k0_off1_inb numel1_S1 pf i = ![(tb pf (ix1 (tl i))).toNat, 0, 0] := by
  exact congrArg (fun w : BitVec 32 => ![w.toNat, 0, 0]) (at1 pf i)

/-- Tables that name experts, with a tile used, keep every block inside its array. -/
theorem ok_of (ha : ∀ T : Fin 152, (ta pf (ix1 T)).toNat < 16) (hb : ∀ T : Fin 152, (tb pf (ix1 T)).toNat < 16)
    (hn : 1 ≤ (tn pf (ix1 0)).toInt) : ok0 pf := by
  refine ⟨fun i => ⟨fun a => ?_, .inl rfl⟩, fun i => ?_, fun i => ?_, fun i => ?_, fun i => ?_, fun i => ?_, fun i => ?_, fun i => ?_, fun i => ?_⟩
  · rw [tr0]
    have := Cert.ExpertsOk.last_lt (tl i) (tn pf (ix1 0)) hn
    generalize (Scalar.minsi (BitVec.ofNat 32 (tl i).val) (Scalar.subi (tn pf (ix1 0)) 1#32)).toNat = w at this ⊢
    match a with
    | ⟨0, _⟩ => show (w + 1) * 256 ≤ 38912; omega
    | ⟨1, _⟩ => show (0 + 1) * 1024 ≤ 1024; omega
  · exact Cert.ExpertsOk.slab _ _ (ha (tl i)) (tr1 pf i) _ _
  · exact Cert.ExpertsOk.slab _ _ (ha (tl i)) (tr1 pf i) _ _
  · exact Cert.ExpertsOk.slab _ _ (ha (tl i)) (tr1 pf i) _ _
  · exact Cert.ExpertsOk.slab _ _ (hb (tl i)) (tr4 pf i) _ _
  · exact Cert.ExpertsOk.slab _ _ (hb (tl i)) (tr4 pf i) _ _
  · exact Cert.ExpertsOk.slab _ _ (hb (tl i)) (tr4 pf i) _ _
  · exact Cert.ExpertsOk.slab _ _ (ha (tl i)) (tr1 pf i) _ _
  · exact Cert.ExpertsOk.slab _ _ (hb (tl i)) (tr4 pf i) _ _

variable (m : (ℓ : Loc nD τ sig) → Buf (Elt F) ℓ)

/-- The tables when the call is entered are the arguments. -/
theorem tbl0 : tbl m 0 = m (((0 : Dev nD) : Thread nD τ).loc main_arg0) := V_main_arg0 m 0
theorem tbl1 : tbl m 1 = m (((0 : Dev nD) : Thread nD τ).loc main_arg1) := V_main_arg1 m 0
theorem tbl2 : tbl m 2 = m (((0 : Dev nD) : Thread nD τ).loc main_arg2) := V_main_arg2 m 0

/-- Arguments that name experts keep the call's blocks inside their arrays. -/
theorem ok_args (ha : ∀ T : Fin 152, ((m (((0 : Dev nD) : Thread nD τ).loc main_arg0) : IVec S152 32) (ix1 T)).toNat < 16)
    (hb : ∀ T : Fin 152, ((m (((0 : Dev nD) : Thread nD τ).loc main_arg1) : IVec S152 32) (ix1 T)).toNat < 16)
    (hn : 1 ≤ ((m (((0 : Dev nD) : Thread nD τ).loc main_arg2) : IVec S1 32) (ix1 0)).toInt) : Ok m :=
  ok_of (tbl m) (fun T => by rw [show ta (tbl m) = _ from tbl0 m]; exact ha T) (fun T => by rw [show tb (tbl m) = _ from tbl1 m]; exact hb T)
    (by rw [show tn (tbl m) = _ from tbl2 m]; exact hn)

end Cert.Experts.Region

namespace Cert.ExpertsIdeal.Region

open Cert.ExpertsIdeal Cert.ExpertsIdeal.Gen

variable {F : FTy → Type} [FloatOps F] (pf : pre0.Contents (Elt F)) (i : grid0.Coords)

/-- The tile a grid point is. -/
abbrev tl : Fin 152 := i 0

/-- The three tables. -/
abbrev ta (pf : pre0.Contents (Elt F)) : IVec S152 32 := pf 0
abbrev tb (pf : pre0.Contents (Elt F)) : IVec S152 32 := pf 1
abbrev tn (pf : pre0.Contents (Elt F)) : IVec S1 32 := pf 2

/-- The word of a table at a grid point. -/
theorem at0 : pf.at 0 (Rect.unit (s := S152) ![(Scalar.indexCast (BitVec.ofNat 32 (i 0).val)).toNat] S1.size (k0_off1_inb i)) numel1_S1 = ta pf (ix1 (tl i)) := by
  have hi : (i 0).val < 152 := (i 0).isLt
  refine congrArg (ta pf) (funext fun a => Fin.ext ?_)
  match a with
  | ⟨0, _⟩ => show (BitVec.ofNat 32 (i 0).val).toNat + 1 * 0 = (i 0).val; rw [BitVec.toNat_ofNat]; omega

theorem at1 : pf.at 1 (Rect.unit (s := S152) ![(Scalar.indexCast (BitVec.ofNat 32 (i 0).val)).toNat] S1.size (k0_off1_inb i)) numel1_S1 = tb pf (ix1 (tl i)) := by
  have hi : (i 0).val < 152 := (i 0).isLt
  refine congrArg (tb pf) (funext fun a => Fin.ext ?_)
  match a with
  | ⟨0, _⟩ => show (BitVec.ofNat 32 (i 0).val).toNat + 1 * 0 = (i 0).val; rw [BitVec.toNat_ofNat]; omega

/-- The number of used tiles. -/
theorem at2 : pf.at 2 (Rect.unit (s := S1) ![0] S1.size inb_S1_S1_0) numel1_S1 = tn pf (ix1 0) :=
  congrArg (tn pf) (funext fun a => Fin.ext (by match a with | ⟨0, _⟩ => rfl))

/-- The block of the rows. -/
theorem tr0 : cc0_transform_0 inb_S1_S1_0 numel1_S1 pf i = ![(Scalar.minsi (BitVec.ofNat 32 (tl i).val) (Scalar.subi (tn pf (ix1 0)) 1#32)).toNat, 0] := by
  exact congrArg (fun w : BitVec 32 => ![(Scalar.minsi (BitVec.ofNat 32 (tl i).val) (Scalar.subi w 1#32)).toNat, 0]) (at2 pf)

/-- The blocks of the first expert. -/
theorem tr1 : cc0_transform_1 k0_off1_inb numel1_S1 pf i = ![(ta pf (ix1 (tl i))).toNat, 0, 0] := by
  exact congrArg (fun w : BitVec 32 => ![w.toNat, 0, 0]) (at0 pf i)

/-- The blocks of the second expert. -/
theorem tr4 : cc0_transform_4 k0_off1_inb numel1_S1 pf i = ![(tb pf (ix1 (tl i))).toNat, 0, 0] := by
  exact congrArg (fun w : BitVec 32 => ![w.toNat, 0, 0]) (at1 pf i)

/-- Tables that name experts, with a tile used, keep every block inside its array. -/
theorem ok_of (ha : ∀ T : Fin 152, (ta pf (ix1 T)).toNat < 16) (hb : ∀ T : Fin 152, (tb pf (ix1 T)).toNat < 16)
    (hn : 1 ≤ (tn pf (ix1 0)).toInt) : ok0 pf := by
  refine ⟨fun i => ⟨fun a => ?_, .inl rfl⟩, fun i => ?_, fun i => ?_, fun i => ?_, fun i => ?_, fun i => ?_, fun i => ?_, fun i => ?_, fun i => ?_⟩
  · rw [tr0]
    have := Cert.ExpertsOk.last_lt (tl i) (tn pf (ix1 0)) hn
    generalize (Scalar.minsi (BitVec.ofNat 32 (tl i).val) (Scalar.subi (tn pf (ix1 0)) 1#32)).toNat = w at this ⊢
    match a with
    | ⟨0, _⟩ => show (w + 1) * 256 ≤ 38912; omega
    | ⟨1, _⟩ => show (0 + 1) * 1024 ≤ 1024; omega
  · exact Cert.ExpertsOk.slab _ _ (ha (tl i)) (tr1 pf i) _ _
  · exact Cert.ExpertsOk.slab _ _ (ha (tl i)) (tr1 pf i) _ _
  · exact Cert.ExpertsOk.slab _ _ (ha (tl i)) (tr1 pf i) _ _
  · exact Cert.ExpertsOk.slab _ _ (hb (tl i)) (tr4 pf i) _ _
  · exact Cert.ExpertsOk.slab _ _ (hb (tl i)) (tr4 pf i) _ _
  · exact Cert.ExpertsOk.slab _ _ (hb (tl i)) (tr4 pf i) _ _
  · exact Cert.ExpertsOk.slab _ _ (ha (tl i)) (tr1 pf i) _ _
  · exact Cert.ExpertsOk.slab _ _ (hb (tl i)) (tr4 pf i) _ _

variable (m : (ℓ : Loc nD τ sig) → Buf (Elt F) ℓ)

/-- The tables when the call is entered are the arguments. -/
theorem tbl0 : tbl m 0 = m (((0 : Dev nD) : Thread nD τ).loc main_arg0) := V_main_arg0 m 0
theorem tbl1 : tbl m 1 = m (((0 : Dev nD) : Thread nD τ).loc main_arg1) := V_main_arg1 m 0
theorem tbl2 : tbl m 2 = m (((0 : Dev nD) : Thread nD τ).loc main_arg2) := V_main_arg2 m 0

/-- Arguments that name experts keep the call's blocks inside their arrays. -/
theorem ok_args (ha : ∀ T : Fin 152, ((m (((0 : Dev nD) : Thread nD τ).loc main_arg0) : IVec S152 32) (ix1 T)).toNat < 16)
    (hb : ∀ T : Fin 152, ((m (((0 : Dev nD) : Thread nD τ).loc main_arg1) : IVec S152 32) (ix1 T)).toNat < 16)
    (hn : 1 ≤ ((m (((0 : Dev nD) : Thread nD τ).loc main_arg2) : IVec S1 32) (ix1 0)).toInt) : Ok m :=
  ok_of (tbl m) (fun T => by rw [show ta (tbl m) = _ from tbl0 m]; exact ha T) (fun T => by rw [show tb (tbl m) = _ from tbl1 m]; exact hb T)
    (by rw [show tn (tbl m) = _ from tbl2 m]; exact hn)

end Cert.ExpertsIdeal.Region

end
-- ==== Proof.ExpertsSpec.lean ====
/- What the experts' kernel and its reference compute, as plain mathematics over the extended reals, and that the reference computes it. -/
module

public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_tables
public import Idealize.ShloMosaic.Lib.Pointwise
public import Idealize.ShloMosaic.Lib.IdealHost
public import Idealize.ShloMosaic.Lib.ReduceAll
public import Idealize.ShloMosaic.Lib.StableHlo.RunHlo

@[expose] public section

set_option maxRecDepth 16384

noncomputable section

namespace Cert.ExpertsSpec

open Cert.ExpertsRefIdeal Cert.ExpertsRefIdeal.Read
open Idealize.ShloMosaic Idealize.ShloMosaic.TcCoe Idealize.SL.Sem
open scoped BigOperators

/-! ## Two experts' shares -/

/-- The exponential of a real number is real. -/
theorem exp_coe (r : ℝ) : Ideal.exp (r : EReal) = ((Real.exp r : ℝ) : EReal) := rfl

/-- The quotient of real numbers is real off a zero divisor. -/
theorem div_coe (a b : ℝ) (hb : b ≠ 0) :
    Ideal.div (a : EReal) (b : EReal) = ((a / b : ℝ) : EReal) := by
  have h : (b : EReal) ≠ 0 := by exact_mod_cast hb
  rw [Ideal.div, if_neg h, div_eq_mul_inv, EReal.coe_mul, EReal.coe_inv]

/-- A finite sum of real numbers is real. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The sigmoid of `z`. -/
def sg (z : EReal) : EReal := Ideal.div 1 (1 + Ideal.exp (-z))

/-- Two softmax weights of real logits, normed to sum to one, are the sigmoid of the logits' difference. -/
theorem share (l : Fin 16 → ℝ) (M : ℝ) (a b : Fin 16) (p : Fin 16 → EReal)
    (hp : ∀ e, p e = Ideal.div (Ideal.exp ((l e : EReal) - (M : EReal))) (∑ j, Ideal.exp ((l j : EReal) - (M : EReal)))) :
    Ideal.div (p a) (p a + p b) = sg ((l a : EReal) - (l b : EReal)) := by
  have hS : (0 : ℝ) < ∑ j, Real.exp (l j - M) := Finset.sum_pos (fun j _ => Real.exp_pos _) ⟨0, Finset.mem_univ _⟩
  have hr (e : Fin 16) : p e = ((Real.exp (l e - M) / ∑ j, Real.exp (l j - M) : ℝ) : EReal) := by
    rw [hp e]
    simp only [← EReal.coe_sub, exp_coe]
    rw [sum_coe, div_coe _ _ hS.ne']
  have ha := Real.exp_pos (l a - M)
  have hb := Real.exp_pos (l b - M)
  have hd : (0 : ℝ) < 1 + Real.exp (-(l a - l b)) := by positivity
  rw [hr a, hr b, ← EReal.coe_add, div_coe _ _ (by positivity), sg, ← EReal.coe_sub, ← EReal.coe_neg, exp_coe,
    ← EReal.coe_one, ← EReal.coe_add, div_coe _ _ hd.ne']
  congr 1
  have hx : Real.exp (l b - M) = Real.exp (l a - M) * Real.exp (-(l a - l b)) := by
    rw [← Real.exp_add]; congr 1; ring
  rw [hx]
  field_simp

/-- The greatest of finitely many real numbers, from minus infinity, is real. -/
theorem fold_real (n : ℕ) (f : Fin (n + 1) → ℝ) : ∃ M : ℝ, (Finset.univ : Finset (Fin (n + 1))).fold max (⊥ : EReal) (fun i => (f i : EReal)) = M := by
  have h1 : (Finset.univ : Finset (Fin (n + 1))).fold max (⊥ : EReal) (fun i => (f i : EReal)) ≠ ⊤ := by
    refine ne_of_lt ((Finset.fold_max_lt _).2 ⟨bot_lt_top, fun i _ => EReal.coe_lt_top _⟩)
  have h2 : (Finset.univ : Finset (Fin (n + 1))).fold max (⊥ : EReal) (fun i => (f i : EReal)) ≠ ⊥ := by
    refine ne_of_gt ((Finset.lt_fold_max _).2 (Or.inr ⟨0, Finset.mem_univ _, EReal.bot_lt_coe _⟩))
  exact ⟨_, (EReal.coe_toReal h1 h2).symm⟩

/-! ## Words -/

/-- A truth value that is one. -/
theorem ofBool_eq_one (p : Bool) : (BitVec.ofBool p = 1#1) ↔ p = true := by cases p <;> decide

/-- A small number as a word, equal to a word. -/
theorem eq_word (x : Fin 16) (w : BitVec 32) : IntOp.cmpi .eq (BitVec.ofNat 32 x.val) w = 1#1 ↔ x.val = w.toNat := by
  have hx := x.isLt
  simp only [IntOp.cmpi, ofBool_eq_one, beq_iff_eq]
  rw [← BitVec.toNat_inj, BitVec.toNat_ofNat, Nat.mod_eq_of_lt (by omega)]

/-- A tile's number as a word, below a word. -/
theorem lt_word (T : Fin 152) (w : BitVec 32) : IntOp.cmpi .slt (BitVec.ofNat 32 T.val) w = 1#1 ↔ (T.val : ℤ) < w.toInt := by
  have hT := T.isLt
  have e : (BitVec.ofNat 32 T.val).toInt = (T.val : ℤ) := by
    rw [BitVec.toInt_eq_toNat_cond, BitVec.toNat_ofNat, Nat.mod_eq_of_lt (by omega), if_pos (by omega)]
  simp only [IntOp.cmpi, ofBool_eq_one, BitVec.slt_eq_decide, decide_eq_true_eq, e]

/-! ## A slab of a stack, taken by a table -/

/-- Taking from a stack of sixteen slabs one per tile, at the tile's word of the table. -/
abbrev slabDims (K J : ℕ) (wf : GatherDims.WF ⟨3, ![16, K, J]⟩ ⟨2, ![152, 1]⟩ ⟨3, ![152, K, J]⟩ [1, 2] [0] [] [0] [] 1 ![1, K, J]) :
    GatherDims ⟨3, ![16, K, J]⟩ ⟨2, ![152, 1]⟩ ⟨3, ![152, K, J]⟩ where
  offsetDims := [1, 2]
  collapsedSliceDims := [0]
  operandBatchingDims := []
  startIndicesBatchingDims := []
  startIndexMap := [0]
  indexVectorDim := 1
  sliceSizes := ![1, K, J]
  wf := wf

/-- The slab taken is the one the word names, cut to the stack's sixteen. -/
theorem slab {K J : ℕ} (wf) (x : (⟨3, ![16, K, J]⟩ : Shape).Idx → EReal) (idx : IVec ⟨2, ![152, 1]⟩ 32) (T : Fin 152) (k : Fin K) (j : Fin J) :
    Host.gather (slabDims K J wf) x idx (ix3 T k j) = x (ix3 ⟨min (idx (ix2 T 0)).toInt.toNat 15, by omega⟩ k j) := by
  unfold Host.gather
  congr 1
  funext a
  refine Fin.ext ?_
  show (slabDims K J wf).start (ix3 T k j) idx a + (slabDims K J wf).batchCoord (ix3 T k j) a + (slabDims K J wf).offCoord (ix3 T k j) a = _
  rw [GatherDims.batchCoord_eq_zero _ _ _ List.not_mem_nil]
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims K J wf).startIndexMap from List.mem_singleton.mpr rfl)]
    have hsi : (slabDims K J wf).siIdx (ix3 T k j) ⟨List.idxOf (0 : Fin 3) (slabDims K J wf).startIndexMap,
        List.idxOf_lt_length_iff.2 (List.mem_singleton.mpr rfl)⟩ = ix2 T 0 := by
      funext b; refine Fin.ext ?_
      match b with
      | ⟨0, _⟩ => rfl
      | ⟨1, _⟩ => rfl
    rw [hsi]
    rfl
  · unfold GatherDims.start GatherDims.offCoord
    rw [dif_neg (show ¬(1 : Fin 3) ∈ ([0] : List (Fin 3)) by decide),
      dif_pos ((GatherDims.mem_sKept (slabDims K J wf) 1).mpr ⟨(show ¬(1 : Fin 3) ∈ ([0] : List (Fin 3)) by decide), List.not_mem_nil⟩)]
    simp only [Nat.zero_add]
    rfl
  · unfold GatherDims.start GatherDims.offCoord
    rw [dif_neg (show ¬(2 : Fin 3) ∈ ([0] : List (Fin 3)) by decide),
      dif_pos ((GatherDims.mem_sKept (slabDims K J wf) 2).mpr ⟨(show ¬(2 : Fin 3) ∈ ([0] : List (Fin 3)) by decide), List.not_mem_nil⟩)]
    simp only [Nat.zero_add]
    rfl

/-! ## The mathematics -/

/-- The token that row `r` of tile `T` is. -/
abbrev tok (T : Fin 152) (r : Fin 256) : Fin 38912 := ⟨T.val * 256 + r.val, by omega⟩

/-- The tile of a row. -/
abbrev tile (R : Fin 38912) : Fin 152 := ⟨R.val / 256, by omega⟩

/-- The expert a table names for a tile. -/
def pick (v : IVec S152 32) (T : Fin 152) : Fin 16 := ⟨min (v (ix1 T)).toInt.toNat 15, by omega⟩

/-- A word that names an expert names this one. -/
theorem pick_val (v : IVec S152 32) (T : Fin 152) (h : (v (ix1 T)).toNat < 16) : (pick v T).val = (v (ix1 T)).toNat := by
  show min (v (ix1 T)).toInt.toNat 15 = _
  rw [BitVec.toInt_eq_toNat_cond, if_pos (by omega)]
  omega

/-- The arguments: the tables of the tiles' two experts and of the number of used tiles, the rows, the experts' weights, the router's. -/
structure Args where
  ea : IVec S152 32
  eb : IVec S152 32
  nu : IVec S1 32
  xs : FVec Ideal S38912x1024 .f32
  wg : FVec Ideal S16x1024x512 .f32
  wu : FVec Ideal S16x1024x512 .f32
  wd : FVec Ideal S16x512x1024 .f32
  wr : FVec Ideal S1024x16 .f32

namespace Args

variable (A : Args)

/-- A row's gate at an expert. -/
def gate (e : Fin 16) (R : Fin 38912) (j : Fin 512) : EReal := ∑ k, A.xs (ix2 R k) * A.wg (ix3 e k j)

/-- A row's value at an expert. -/
def up (e : Fin 16) (R : Fin 38912) (j : Fin 512) : EReal := ∑ k, A.xs (ix2 R k) * A.wu (ix3 e k j)

/-- A row's result of an expert. -/
def ffn (e : Fin 16) (R : Fin 38912) (k : Fin 1024) : EReal :=
  ∑ j, A.gate e R j * sg (A.gate e R j) * A.up e R j * A.wd (ix3 e j k)

/-- A row's logit of an expert. -/
def lg (R : Fin 38912) (e : Fin 16) : EReal := ∑ k, A.xs (ix2 R k) * A.wr (ix2 k e)

/-- The difference of a row's logits at two experts, as the product with the weights' difference. -/
def dl (R : Fin 38912) (a b : Fin 16) : EReal := ∑ k, A.xs (ix2 R k) * (A.wr (ix2 k a) - A.wr (ix2 k b))

/-- What a used tile's row becomes. -/
def mix (T : Fin 152) (R : Fin 38912) (k : Fin 1024) : EReal :=
  sg (A.dl R (pick A.ea T) (pick A.eb T)) * A.ffn (pick A.ea T) R k + sg (-A.dl R (pick A.ea T) (pick A.eb T)) * A.ffn (pick A.eb T) R k

/-- Whether a tile is used. -/
def used (T : Fin 152) : Prop := (T.val : ℤ) < (A.nu (ix1 0)).toInt

open Classical in
/-- The result at a row. -/
def out (R : Fin 38912) (k : Fin 1024) : EReal := if A.used (tile R) then A.mix (tile R) R k else 0

/-- The result. -/
def OUT : FVec Ideal S38912x1024 .f32 := fun i => A.out (i 0) (i 1)

/-- The tables name experts, a tile is used, the rows and the router's weights are real. -/
structure Ok : Prop where
  ea : ∀ T, (A.ea (ix1 T)).toNat < 16
  eb : ∀ T, (A.eb (ix1 T)).toNat < 16
  nu : 1 ≤ (A.nu (ix1 0)).toInt
  xs : ∀ i, ∃ r : ℝ, A.xs i = r
  wr : ∀ i, ∃ r : ℝ, A.wr i = r

/-- Of real rows and weights the difference of the logits is the product with the weights' difference. -/
theorem dl_eq (h : A.Ok) : ∃ l : Fin 38912 → Fin 16 → ℝ, (∀ R e, A.lg R e = l R e) ∧ ∀ R a b, A.dl R a b = (l R a : EReal) - (l R b : EReal) := by
  choose x hx using h.xs
  choose w hw using h.wr
  refine ⟨fun R e => ∑ k : Fin 1024, x (ix2 R k) * w (ix2 k e), fun R e => ?_, fun R a b => ?_⟩
  · simp only [lg, hx, hw, ← EReal.coe_mul, sum_coe]
  · simp only [dl, hx, hw, ← EReal.coe_sub, ← EReal.coe_mul, sum_coe, mul_sub, Finset.sum_sub_distrib]

/-! ## The reference -/

/-- The reference's rows, tile by tile. -/
theorem ref_row (x : FVec Ideal S38912x1024 .f32) (T : Fin 152) (r : Fin 256) (k : Fin 1024) :
    val_main_v0 (F := Ideal) x (ix3 T r k) = x (ix2 (tok T r) k) := by
  pointwise [val_main_v0]

/-- A table as the column of words the reference takes by. -/
theorem ref_word (v : IVec S152 32) (T : Fin 152) : val_main_call2_v0 (F := Ideal) v (ix2 T 0) = v (ix1 T) := by
  pointwise [val_main_call2_v0]

/-- The slabs the reference takes. -/
theorem ref_take (v : IVec S152 32) (w : FVec Ideal S16x1024x512 .f32) (T : Fin 152) (k : Fin 1024) (j : Fin 512) :
    val_main_v35 (F := Ideal) v w (ix3 T k j) = w (ix3 (pick v T) k j) := by
  refine (slab _ w _ T k j).trans (congrArg (fun i => w (ix3 i k j)) (Fin.ext ?_))
  show min (val_main_call2_v0 (F := Ideal) v (ix2 T 0)).toInt.toNat 15 = min (v (ix1 T)).toInt.toNat 15
  rw [ref_word]

/-- The slabs of the last product. -/
theorem ref_takeD (v : IVec S152 32) (w : FVec Ideal S16x512x1024 .f32) (T : Fin 152) (k : Fin 512) (j : Fin 1024) :
    val_main_v41 (F := Ideal) v w (ix3 T k j) = w (ix3 (pick v T) k j) := by
  refine (slab _ w _ T k j).trans (congrArg (fun i => w (ix3 i k j)) (Fin.ext ?_))
  show min (val_main_call2_v0 (F := Ideal) v (ix2 T 0)).toInt.toNat 15 = min (v (ix1 T)).toInt.toNat 15
  rw [ref_word]

/-- The reference's gate. -/
theorem ref_gate (v : IVec S152 32) (T : Fin 152) (r : Fin 256) (j : Fin 512) :
    val_main_v36 (F := Ideal) v A.xs A.wg (ix3 T r j) = A.gate (pick v T) (tok T r) j := by
  pointwise [val_main_v36]
  simp only [ref_row, ref_take, gate]

/-- The reference's value. -/
theorem ref_up (v : IVec S152 32) (T : Fin 152) (r : Fin 256) (j : Fin 512) :
    val_main_v39 (F := Ideal) v A.xs A.wu (ix3 T r j) = A.up (pick v T) (tok T r) j := by
  have e : val_main_v38 (F := Ideal) v A.wu = val_main_v35 (F := Ideal) v A.wu := rfl
  pointwise [val_main_v39]
  simp only [e, ref_row, ref_take, up]

/-- The reference's expert. -/
theorem ref_ffn (v : IVec S152 32) (T : Fin 152) (r : Fin 256) (k : Fin 1024) :
    val_main_v42 (F := Ideal) v A.xs A.wg A.wu A.wd (ix3 T r k) = A.ffn (pick v T) (tok T r) k := by
  pointwise [val_main_v42, val_main_v40, val_main_v37, val_main_call3_v5, val_main_call3_v4, val_main_call3_cst_0, val_main_call3_v3,
    val_main_call3_v2, val_main_call3_cst, val_main_call3_v1, val_main_call3_v0]
  simp only [ref_gate, ref_up, ref_takeD, ffn, sg]

/-- The reference's logits. -/
theorem ref_lg (T : Fin 152) (r : Fin 256) (e : Fin 16) : val_main_v1 (F := Ideal) A.xs A.wr (ix3 T r e) = A.lg (tok T r) e := by
  pointwise [val_main_v1]
  simp only [ref_row, lg]

/-- The greatest logit of a row is real. -/
theorem ref_max (h : A.Ok) (T : Fin 152) (r : Fin 256) : ∃ M : ℝ, val_main_v4 (F := Ideal) A.xs A.wr (ix2 T r) = M := by
  obtain ⟨l, hl, -⟩ := A.dl_eq h
  obtain ⟨M, hM⟩ := fold_real 15 (l (tok T r))
  refine ⟨M, ?_⟩
  pointwise [val_main_v4, val_main_v3, val_main_cst_0, val_main_v2, val_main_cst]
  simp only [ref_lg, hl]
  have hb : Ideal.ofBits .f32 0xFF800000#32 = (⊥ : EReal) := by simp [Ideal.ofBits, Ideal.ieee]
  rw [hb, hM]
  exact max_eq_right bot_le

/-- The reference's softmax of a row at an expert. -/
theorem ref_prob (T : Fin 152) (r : Fin 256) (e : Fin 16) :
    val_main_v12 (F := Ideal) A.xs A.wr (ix3 T r e) = Ideal.div (Ideal.exp (A.lg (tok T r) e - val_main_v4 (F := Ideal) A.xs A.wr (ix2 T r)))
      (∑ j, Ideal.exp (A.lg (tok T r) j - val_main_v4 (F := Ideal) A.xs A.wr (ix2 T r))) := by
  pointwise [val_main_v12, val_main_v11, val_main_v10, val_main_v9, val_main_cst_1, val_main_v8, val_main_v7, val_main_v6, val_main_v5]
  simp only [ref_lg]

/-- The reference's weight of the expert a table names. -/
theorem ref_weight (v : IVec S152 32) (T : Fin 152) (hv : (v (ix1 T)).toNat < 16) (r : Fin 256) :
    val_main_v22 (F := Ideal) v A.xs A.wr (ix3 T r 0) = val_main_v12 (F := Ideal) A.xs A.wr (ix3 T r (pick v T)) := by
  pointwise [val_main_v22, val_main_v21, val_main_cst_3, val_main_v20, val_main_call0_v2, val_main_call0_v1, val_main_call0_v0, val_main_cst_2,
    val_main_v19, val_main_v18, val_main_v17, val_main_v16, val_main_v15, val_main_v14, val_main_v13]
  have hz : id (constant (F := Ideal) S_ FTy.f32 0#32) ix0 = (0 : EReal) := Ideal.ofBits_zero_f32
  have hc (x : Fin 16) : IntOp.cmpi .eq (BitVec.ofNat 32 x.val) (v (ix1 T)) = 1#1 ↔ x = pick v T := by
    rw [eq_word, Fin.ext_iff, pick_val v T hv]
  simp only [Scalar.select, hz]
  rw [Finset.sum_eq_single (pick v T)]
  · exact if_pos ((hc _).2 rfl)
  · exact fun x _ hx => if_neg fun e => hx ((hc x).1 e)
  · exact fun hx => absurd (Finset.mem_univ _) hx

/-- The two experts' weights, normed to sum to one. -/
theorem ref_share (h : A.Ok) (va vb : IVec S152 32) (T : Fin 152) (r : Fin 256) :
    Ideal.div (val_main_v12 (F := Ideal) A.xs A.wr (ix3 T r (pick va T)))
      (val_main_v12 (F := Ideal) A.xs A.wr (ix3 T r (pick va T)) + val_main_v12 (F := Ideal) A.xs A.wr (ix3 T r (pick vb T)))
      = sg (A.dl (tok T r) (pick va T) (pick vb T)) := by
  obtain ⟨M, hM⟩ := A.ref_max h T r
  obtain ⟨l, hl, hd⟩ := A.dl_eq h
  rw [hd]
  refine share (l (tok T r)) M _ _ (fun e => val_main_v12 (F := Ideal) A.xs A.wr (ix3 T r e)) fun e => ?_
  rw [ref_prob, hM]
  simp only [hl]

/-- The difference of the logits the other way round. -/
theorem dl_neg (h : A.Ok) (R : Fin 38912) (a b : Fin 16) : A.dl R b a = -A.dl R a b := by
  obtain ⟨l, hl, hd⟩ := A.dl_eq h
  rw [hd, hd, ← EReal.coe_sub, ← EReal.coe_sub, ← EReal.coe_neg, neg_sub]

/-- The reference's rows of a used tile. -/
theorem ref_mix (h : A.Ok) (T : Fin 152) (r : Fin 256) (k : Fin 1024) :
    val_main_v57 (F := Ideal) A.ea A.eb A.xs A.wg A.wu A.wd A.wr (ix3 T r k) = A.mix T (tok T r) k := by
  have e1 : val_main_v54 (F := Ideal) A.eb A.xs A.wg A.wu A.wd = val_main_v42 (F := Ideal) A.eb A.xs A.wg A.wu A.wd := rfl
  have e2 : val_main_v32 (F := Ideal) A.eb A.xs A.wr = val_main_v22 (F := Ideal) A.eb A.xs A.wr := rfl
  pointwise [val_main_v57, val_main_v56, val_main_v55, val_main_v46, val_main_v45, val_main_v44, val_main_v43, val_main_v34, val_main_v33]
  simp only [e1, e2, ref_ffn, ref_weight _ _ _ (h.ea T), ref_weight _ _ _ (h.eb T)]
  rw [A.ref_share h A.ea A.eb T r,
    add_comm (val_main_v12 (F := Ideal) A.xs A.wr (ix3 T r (pick A.ea T))) (val_main_v12 (F := Ideal) A.xs A.wr (ix3 T r (pick A.eb T))),
    A.ref_share h A.eb A.ea T r, A.dl_neg h (tok T r) (pick A.ea T) (pick A.eb T)]
  rfl

/-- The reference's result. -/
theorem ref_OUT (h : A.Ok) : val_main_v64 (F := Ideal) A.ea A.eb A.nu A.xs A.wg A.wu A.wd A.wr = A.OUT := by
  funext i
  idx_vars i
  pointwise [val_main_v64, val_main_v63, val_main_call10_v2, val_main_cst_6, val_main_call10_v1, val_main_call10_v0, val_main_v62, val_main_v61,
    val_main_v60, val_main_v59, val_main_v58]
  have hz : id (constant (F := Ideal) S_ FTy.f32 0#32) ix0 = (0 : EReal) := Ideal.ofBits_zero_f32
  have hR : tok (tile i0) ⟨i0.val % 256, Nat.mod_lt _ (by decide)⟩ = i0 := Fin.ext (by show i0.val / 256 * 256 + i0.val % 256 = i0.val; omega)
  have hm := A.ref_mix h (tile i0) ⟨i0.val % 256, Nat.mod_lt _ (by decide)⟩ i1
  rw [hR] at hm
  rw [hz, hm]
  show Scalar.select _ _ _ = A.out i0 i1
  unfold out Scalar.select
  by_cases hu : A.used (tile i0)
  · exact (if_pos ((lt_word (tile i0) _).2 hu)).trans (if_pos hu).symm
  · exact (if_neg fun e => hu ((lt_word (tile i0) _).1 e)).trans (if_neg hu).symm

end Args

/-! ## The precondition -/

/-- The conjunction of two truth values. -/
theorem andi_ofBool (p q : Bool) : IntOp.andi (BitVec.ofBool p) (BitVec.ofBool q) = BitVec.ofBool (p && q) := by
  cases p <;> cases q <;> decide

/-- Words between nought and sixteen. -/
theorem word {w : BitVec 32} (e : IntOp.andi (IntOp.cmpi .sge w 0#32) (IntOp.cmpi .slt w 16#32) = 1#1) : w.toNat < 16 := by
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod, beq_iff_eq] at e
  omega

/-- A word of at least one. -/
theorem one_word {w : BitVec 32} (e : IntOp.cmpi .sge w 1#32 = 1#1) : 1 ≤ w.toInt := by
  simp only [IntOp.cmpi, ofBool_eq_one, BitVec.sle_eq_decide, decide_eq_true_eq] at e
  exact e

instance : Subsingleton Cert.Pre_tables.S_.Idx := ⟨fun a b => funext fun x => x.elim0⟩

/-- What the precondition says of the tables. -/
theorem tables {F : FTy → Type} [FloatOps F] {ea eb : IVec S152 32} {nu : IVec S1 32} {xs : FVec F S38912x1024 .f32}
    {wg wu : FVec F S16x1024x512 .f32} {wd : FVec F S16x512x1024 .f32} {wr : FVec F S1024x16 .f32}
    (h : Cert.Pre_tables.fn ea eb nu xs wg wu wd wr = constantI Cert.Pre_tables.S_ 1 1#1) :
    ((∀ T, (ea (ix1 T)).toNat < 16) ∧ (∀ T, (eb (ix1 T)).toNat < 16) ∧ 1 ≤ (nu (ix1 0)).toInt)
      ∧ (∀ i, FloatOps.cmpf .olt (FloatOps.hostAbsf (xs i)) (FloatOps.ofBits .f32 0x7F800000#32) = 1#1)
      ∧ ∀ i, FloatOps.cmpf .olt (FloatOps.hostAbsf (wr i)) (FloatOps.ofBits .f32 0x7F800000#32) = 1#1 := by
  have e := congrFun h (fun x => x.elim0)
  simp only [Cert.Pre_tables.fn, Cert.Pre_tables.fn_part1, andi, constantI, IntOp.andi_eq_one] at e
  obtain ⟨⟨⟨⟨ha, hb⟩, hn⟩, hx⟩, hw⟩ := e
  refine ⟨⟨fun T => word ?_, fun T => word ?_, one_word ?_⟩, fun i => ?_, fun i => ?_⟩
  · exact Host.reduce_andi_all _ _ _ _ _ ha (ix1 T)
  · exact Host.reduce_andi_all _ _ _ _ _ hb (ix1 T)
  · exact Host.reduce_andi_all _ _ _ _ _ hn (ix1 0)
  · exact Host.reduce_andi_all _ _ _ _ _ hx i
  · exact Host.reduce_andi_all _ _ _ _ _ hw i

/-- An extended real of absolute value below infinity is real. -/
theorem real_of_lt {z : EReal} (e : FloatOps.cmpf (F := Ideal) (φ := .f32) .olt (FloatOps.hostAbsf (F := Ideal) (φ := .f32) z) (FloatOps.ofBits (F := Ideal) .f32 0x7F800000#32) = 1#1) :
    ∃ r : ℝ, z = r := by
  have e' : Ideal.cmp .olt (max z (-z)) (Ideal.ofBits .f32 0x7F800000#32) = 1#1 := e
  have htop : Ideal.ofBits .f32 0x7F800000#32 = (⊤ : EReal) := by simp [Ideal.ofBits, Ideal.ieee]
  rw [htop] at e'
  simp only [Ideal.cmp, ofBool_eq_one, decide_eq_true_eq, max_lt_iff] at e'
  refine ⟨z.toReal, (EReal.coe_toReal e'.1.ne fun hb => ?_).symm⟩
  rw [hb] at e'
  exact absurd e'.2 (by simp)

/-- The precondition over the extended reals. -/
theorem ok (A : Args) (h : Cert.Pre_tables.fn (F := Ideal) A.ea A.eb A.nu A.xs A.wg A.wu A.wd A.wr = constantI Cert.Pre_tables.S_ 1 1#1) : A.Ok :=
  have t := tables h
  ⟨t.1.1, t.1.2.1, t.1.2.2, fun i => real_of_lt (t.2.1 i), fun i => real_of_lt (t.2.2 i)⟩

/-- The reference's arguments as they lie in memory. -/
abbrev refArgs (m : (ℓ : Loc nD τ sig) → Buf (Elt Ideal) ℓ) (c : Dev nD) : Args where
  ea := m ((c : Thread nD τ).loc main_arg0)
  eb := m ((c : Thread nD τ).loc main_arg1)
  nu := m ((c : Thread nD τ).loc main_arg2)
  xs := m ((c : Thread nD τ).loc main_arg3)
  wg := m ((c : Thread nD τ).loc main_arg4)
  wu := m ((c : Thread nD τ).loc main_arg5)
  wd := m ((c : Thread nD τ).loc main_arg6)
  wr := m ((c : Thread nD τ).loc main_arg7)

/-- A run of the reference leaves the result. -/
theorem run (m : (ℓ : Loc nD τ sig) → Buf (Elt Ideal) ℓ) (g : Dev nD → PrngReg) (h : ∀ c, (refArgs m c).Ok) :
    θ_run defs (onTc (τ := τ) (main (F := Ideal))) ⟨m, fun _ => 0, g⟩ (fun r => ∀ c : Dev nD,
      r.2.mem ((c.tc : Thread nD τ).loc main_v64) = (refArgs m c).OUT) :=
  θ_run_mono (Cert.ExpertsRefIdeal.Value.run m g) fun r e c =>
    ((e c).1.trans (val_main_v64_eq ..)).trans ((refArgs m c).ref_OUT (h c))

end Cert.ExpertsSpec

end
-- ==== Proof.ExpertsValue.lean ====
/- The experts' call over exact values: the array the kernel leaves is the one the reference computes. -/
module

public import proofs.«01_k».proof.Proof.ExpertsOk
public import proofs.«01_k».proof.Proof.ExpertsSpec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.ExpertsIdeal.Value

open Cert.ExpertsIdeal Cert.ExpertsIdeal.Gen Cert.ExpertsIdeal.Region
open Cert.ExpertsSpec (Args tok pick sg)

variable (m : (ℓ : Loc nD τ sig) → Buf (Elt Ideal) ℓ) (c : Dev nD)

/-- The arguments as they lie in memory at the launch. -/
abbrev args : Args where
  ea := m ((c : Thread nD τ).loc main_arg0)
  eb := m ((c : Thread nD τ).loc main_arg1)
  nu := m ((c : Thread nD τ).loc main_arg2)
  xs := m ((c : Thread nD τ).loc main_arg3)
  wg := m ((c : Thread nD τ).loc main_arg4)
  wu := m ((c : Thread nD τ).loc main_arg5)
  wd := m ((c : Thread nD τ).loc main_arg6)
  wr := m ((c : Thread nD τ).loc main_arg7)

/-- The tables the call reads are the arguments. -/
theorem ta_eq : ta (tbl m) = (args m c).ea := by
  obtain rfl : c = 0 := Subsingleton.elim _ _
  exact tbl0 m
theorem tb_eq : tb (tbl m) = (args m c).eb := by
  obtain rfl : c = 0 := Subsingleton.elim _ _
  exact tbl1 m
theorem tn_eq : tn (tbl m) = (args m c).nu := by
  obtain rfl : c = 0 := Subsingleton.elim _ _
  exact tbl2 m

/-- Tables that name experts keep the call's blocks inside their arrays. -/
theorem ok (h : (args m 0).Ok) : Ok m :=
  ok_of (tbl m) (by rw [ta_eq m 0]; exact h.ea) (by rw [tb_eq m 0]; exact h.eb) (by rw [tn_eq m 0]; exact h.nu)

variable (hO : Ok m)

/-! ## Where the blocks lie -/

/-- A grid point's coordinate. -/
theorem coords (t : Fin grid0.N) : tl (grid0.coords t) = t :=
  Fin.ext ((by decide +kernel : ∀ t : Fin grid0.N, (grid0.coords t 0).val = t.val) t)

theorem ix9 (t : Fin grid0.N) : cc0_transform_9 (grid0.coords t) = ![t.val, 0] :=
  (by decide +kernel : ∀ t : Fin grid0.N, cc0_transform_9 (grid0.coords t) = ![t.val, 0]) t

/-- A block of rows, placed in the array. -/
theorem rows_at (T : Fin 152) (v : Fin 2 → ℕ) (e : v = ![T.val, 0]) (r : Fin 256) (k : Fin 1024) (a : Fin 2) :
    v a * S256x1024.size a + ((ix2 r k : S256x1024.Idx) a).val = ((ix2 (tok T r) k : S38912x1024.Idx) a).val := by
  subst e
  fin_cases a
  · rfl
  · show 0 * 1024 + k.val = k.val
    omega

/-- An expert's slab, placed in the array. -/
theorem slab_at (E : Fin 16) (A B : ℕ) (v : Fin 3 → ℕ) (e : v = ![E.val, 0, 0]) (k : Fin A) (j : Fin B) (a : Fin 3) :
    v a * (![1, A, B] : Fin 3 → ℕ) a + ((ix3 0 k j : (⟨3, ![1, A, B]⟩ : Shape).Idx) a).val = ((ix3 E k j : (⟨3, ![16, A, B]⟩ : Shape).Idx) a).val := by
  subst e
  fin_cases a
  · show E.val * 1 + 0 = E.val
    omega
  · show 0 * A + k.val = k.val
    omega
  · show 0 * B + j.val = j.val
    omega

/-- The blocks of the rows and of the result. -/
theorem emb0 (t : Fin (cfgM m hO).N) (e : cc0_transform_0 inb_S1_S1_0 numel1_S1 (tbl m) (grid0.coords t) = ![t.val, 0])
    (r : Fin 256) (k : Fin 1024) :
    (((cfgM m hO).win 0).blk t).view.emb (ix2 r k : S256x1024.Idx) = (ix2 (tok t r) k : S38912x1024.Idx) :=
  funext fun a => Fin.ext ((ValueKit.rect_emb_unit_val _ _ _ _ a).trans (rows_at t _ e r k a))

theorem emb9 (t : Fin (cfgM m hO).N) (r : Fin 256) (k : Fin 1024) :
    (((cfgM m hO).win 9).blk t).view.emb (ix2 r k : S256x1024.Idx) = (ix2 (tok t r) k : S38912x1024.Idx) :=
  funext fun a => Fin.ext ((ValueKit.rect_emb_unit_val _ _ _ _ a).trans (rows_at t _ (ix9 t) r k a))

/-- The blocks of the experts' weights. -/
theorem emb1 (t : Fin (cfgM m hO).N) (E : Fin 16) (e : cc0_transform_1 k0_off1_inb numel1_S1 (tbl m) (grid0.coords t) = ![E.val, 0, 0])
    (k : Fin 1024) (j : Fin 512) : (((cfgM m hO).win 1).blk t).view.emb (ix3 0 k j : S1x1024x512.Idx) = (ix3 E k j : S16x1024x512.Idx) :=
  funext fun a => Fin.ext ((ValueKit.rect_emb_unit_val _ _ _ _ a).trans (slab_at E 1024 512 _ e k j a))

theorem emb2 (t : Fin (cfgM m hO).N) (E : Fin 16) (e : cc0_transform_1 k0_off1_inb numel1_S1 (tbl m) (grid0.coords t) = ![E.val, 0, 0])
    (k : Fin 1024) (j : Fin 512) : (((cfgM m hO).win 2).blk t).view.emb (ix3 0 k j : S1x1024x512.Idx) = (ix3 E k j : S16x1024x512.Idx) :=
  funext fun a => Fin.ext ((ValueKit.rect_emb_unit_val _ _ _ _ a).trans (slab_at E 1024 512 _ e k j a))

theorem emb3 (t : Fin (cfgM m hO).N) (E : Fin 16) (e : cc0_transform_1 k0_off1_inb numel1_S1 (tbl m) (grid0.coords t) = ![E.val, 0, 0])
    (k : Fin 512) (j : Fin 1024) : (((cfgM m hO).win 3).blk t).view.emb (ix3 0 k j : S1x512x1024.Idx) = (ix3 E k j : S16x512x1024.Idx) :=
  funext fun a => Fin.ext ((ValueKit.rect_emb_unit_val _ _ _ _ a).trans (slab_at E 512 1024 _ e k j a))

theorem emb4 (t : Fin (cfgM m hO).N) (E : Fin 16) (e : cc0_transform_4 k0_off1_inb numel1_S1 (tbl m) (grid0.coords t) = ![E.val, 0, 0])
    (k : Fin 1024) (j : Fin 512) : (((cfgM m hO).win 4).blk t).view.emb (ix3 0 k j : S1x1024x512.Idx) = (ix3 E k j : S16x1024x512.Idx) :=
  funext fun a => Fin.ext ((ValueKit.rect_emb_unit_val _ _ _ _ a).trans (slab_at E 1024 512 _ e k j a))

theorem emb5 (t : Fin (cfgM m hO).N) (E : Fin 16) (e : cc0_transform_4 k0_off1_inb numel1_S1 (tbl m) (grid0.coords t) = ![E.val, 0, 0])
    (k : Fin 1024) (j : Fin 512) : (((cfgM m hO).win 5).blk t).view.emb (ix3 0 k j : S1x1024x512.Idx) = (ix3 E k j : S16x1024x512.Idx) :=
  funext fun a => Fin.ext ((ValueKit.rect_emb_unit_val _ _ _ _ a).trans (slab_at E 1024 512 _ e k j a))

theorem emb6 (t : Fin (cfgM m hO).N) (E : Fin 16) (e : cc0_transform_4 k0_off1_inb numel1_S1 (tbl m) (grid0.coords t) = ![E.val, 0, 0])
    (k : Fin 512) (j : Fin 1024) : (((cfgM m hO).win 6).blk t).view.emb (ix3 0 k j : S1x512x1024.Idx) = (ix3 E k j : S16x512x1024.Idx) :=
  funext fun a => Fin.ext ((ValueKit.rect_emb_unit_val _ _ _ _ a).trans (slab_at E 512 1024 _ e k j a))

theorem emb7 (t : Fin (cfgM m hO).N) (E : Fin 16) (e : cc0_transform_1 k0_off1_inb numel1_S1 (tbl m) (grid0.coords t) = ![E.val, 0, 0])
    (k : Fin 1024) : (((cfgM m hO).win 7).blk t).view.emb (ix3 0 0 k : S1x1x1024.Idx) = (ix3 E 0 k : S16x1x1024.Idx) :=
  funext fun a => Fin.ext ((ValueKit.rect_emb_unit_val _ _ _ _ a).trans (slab_at E 1 1024 _ e 0 k a))

theorem emb8 (t : Fin (cfgM m hO).N) (E : Fin 16) (e : cc0_transform_4 k0_off1_inb numel1_S1 (tbl m) (grid0.coords t) = ![E.val, 0, 0])
    (k : Fin 1024) : (((cfgM m hO).win 8).blk t).view.emb (ix3 0 0 k : S1x1x1024.Idx) = (ix3 E 0 k : S16x1x1024.Idx) :=
  funext fun a => Fin.ext ((ValueKit.rect_emb_unit_val _ _ _ _ a).trans (slab_at E 1 1024 _ e 0 k a))

/-- The result's blocks cover its array. -/
theorem covers9 : ((cfgM m hO).win 9).Covers := by
  refine ⟨(by decide : ∀ a : Fin 2, 0 < S256x1024.size a), fun β => ?_⟩
  have h0 : (β (0 : Fin 2)).val < 152 :=
    lt_of_lt_of_eq (β (0 : Fin 2)).isLt (by decide : (S38912x1024.size 0 + S256x1024.size 0 - 1) / S256x1024.size 0 = 152)
  have h1 : (β (1 : Fin 2)).val < 1 :=
    lt_of_lt_of_eq (β (1 : Fin 2)).isLt (by decide : (S38912x1024.size 1 + S256x1024.size 1 - 1) / S256x1024.size 1 = 1)
  refine ⟨(⟨(β (0 : Fin 2)).val, h0⟩ : Fin 152), flush0_9 _ _, fun a => ⟨?_, Or.inl rfl⟩⟩
  refine (congrFun (ix9 ⟨(β (0 : Fin 2)).val, h0⟩) a).trans ?_
  fin_cases a
  · rfl
  · show 0 = (β (1 : Fin 2)).val
    omega

/-! ## The arrays the host prepares -/

/-- The weights as the host rounds them, which over exact values is not at all. -/
theorem vg (e : Fin 16) (k : Fin 1024) (j : Fin 512) :
    (V m c (Pipeline.arrRef spec0 1) : FVec Ideal S16x1024x512 .bf16) (ix3 e k j) = (args m c).wg (ix3 e k j) := by
  entry_read
  pointwise []

theorem vu (e : Fin 16) (k : Fin 1024) (j : Fin 512) :
    (V m c (Pipeline.arrRef spec0 2) : FVec Ideal S16x1024x512 .bf16) (ix3 e k j) = (args m c).wu (ix3 e k j) := by
  entry_read
  pointwise []

theorem vd (e : Fin 16) (j : Fin 512) (k : Fin 1024) :
    (V m c (Pipeline.arrRef spec0 3) : FVec Ideal S16x512x1024 .bf16) (ix3 e j k) = (args m c).wd (ix3 e j k) := by
  entry_read
  pointwise []

/-- The router's weights, laid an expert a row. -/
theorem vr (e : Fin 16) (k : Fin 1024) :
    (V m c (Pipeline.arrRef spec0 7) : FVec Ideal S16x1x1024 .f32) (ix3 e 0 k) = (args m c).wr (ix2 k e) := by
  entry_read
  pointwise []

/-! ## What each window's block holds -/

variable (h : (args m c).Ok)

include h in
/-- The blocks of the first expert are its slabs. -/
theorem ixa (t : Fin (cfgM m hO).N) : cc0_transform_1 k0_off1_inb numel1_S1 (tbl m) (grid0.coords t) = ![(pick (args m c).ea t).val, 0, 0] := by
  rw [tr1, coords, ta_eq m c, Cert.ExpertsSpec.pick_val _ _ (h.ea t)]

include h in
/-- The blocks of the second expert are its slabs. -/
theorem ixb (t : Fin (cfgM m hO).N) : cc0_transform_4 k0_off1_inb numel1_S1 (tbl m) (grid0.coords t) = ![(pick (args m c).eb t).val, 0, 0] := by
  rw [tr4, coords, tb_eq m c, Cert.ExpertsSpec.pick_val _ _ (h.eb t)]

/-- The block of the rows of a used tile is the tile's. -/
theorem ixx (t : Fin (cfgM m hO).N) (hu : (args m c).used t) : cc0_transform_0 inb_S1_S1_0 numel1_S1 (tbl m) (grid0.coords t) = ![t.val, 0] := by
  rw [tr0, coords, tn_eq m c, Cert.ExpertsOk.last_eq t _ hu]

/-- The rows of a used tile. -/
theorem rd0 (t : Fin (cfgM m hO).N) (hu : (args m c).used t) (r : Fin 256) (k : Fin 1024) :
    (iblk m hO c 0 t : FVec Ideal S256x1024 .f32) (ix2 r k) = (args m c).xs (ix2 (tok t r) k) :=
  (congrFun (V_main_arg3 m c) _).trans (congrArg (args m c).xs (emb0 m hO t (ixx m c hO t hu) r k))

include h in
/-- The gates of the first expert. -/
theorem rd1 (t : Fin (cfgM m hO).N) (k : Fin 1024) (j : Fin 512) :
    (iblk m hO c 1 t : FVec Ideal S1x1024x512 .bf16) (ix3 0 k j) = (args m c).wg (ix3 (pick (args m c).ea t) k j) :=
  (congrArg (V m c (Pipeline.arrRef spec0 1)) (emb1 m hO t (pick (args m c).ea t) (ixa m c hO h t) k j)).trans (vg m c (pick (args m c).ea t) k j)

include h in
/-- Its values. -/
theorem rd2 (t : Fin (cfgM m hO).N) (k : Fin 1024) (j : Fin 512) :
    (iblk m hO c 2 t : FVec Ideal S1x1024x512 .bf16) (ix3 0 k j) = (args m c).wu (ix3 (pick (args m c).ea t) k j) :=
  (congrArg (V m c (Pipeline.arrRef spec0 2)) (emb2 m hO t (pick (args m c).ea t) (ixa m c hO h t) k j)).trans (vu m c (pick (args m c).ea t) k j)

include h in
/-- Its output weights. -/
theorem rd3 (t : Fin (cfgM m hO).N) (k : Fin 512) (j : Fin 1024) :
    (iblk m hO c 3 t : FVec Ideal S1x512x1024 .bf16) (ix3 0 k j) = (args m c).wd (ix3 (pick (args m c).ea t) k j) :=
  (congrArg (V m c (Pipeline.arrRef spec0 3)) (emb3 m hO t (pick (args m c).ea t) (ixa m c hO h t) k j)).trans (vd m c (pick (args m c).ea t) k j)

include h in
/-- The gates of the second expert. -/
theorem rd4 (t : Fin (cfgM m hO).N) (k : Fin 1024) (j : Fin 512) :
    (iblk m hO c 4 t : FVec Ideal S1x1024x512 .bf16) (ix3 0 k j) = (args m c).wg (ix3 (pick (args m c).eb t) k j) :=
  (congrArg (V m c (Pipeline.arrRef spec0 1)) (emb4 m hO t (pick (args m c).eb t) (ixb m c hO h t) k j)).trans (vg m c (pick (args m c).eb t) k j)

include h in
/-- Its values. -/
theorem rd5 (t : Fin (cfgM m hO).N) (k : Fin 1024) (j : Fin 512) :
    (iblk m hO c 5 t : FVec Ideal S1x1024x512 .bf16) (ix3 0 k j) = (args m c).wu (ix3 (pick (args m c).eb t) k j) :=
  (congrArg (V m c (Pipeline.arrRef spec0 2)) (emb5 m hO t (pick (args m c).eb t) (ixb m c hO h t) k j)).trans (vu m c (pick (args m c).eb t) k j)

include h in
/-- Its output weights. -/
theorem rd6 (t : Fin (cfgM m hO).N) (k : Fin 512) (j : Fin 1024) :
    (iblk m hO c 6 t : FVec Ideal S1x512x1024 .bf16) (ix3 0 k j) = (args m c).wd (ix3 (pick (args m c).eb t) k j) :=
  (congrArg (V m c (Pipeline.arrRef spec0 3)) (emb6 m hO t (pick (args m c).eb t) (ixb m c hO h t) k j)).trans (vd m c (pick (args m c).eb t) k j)

include h in
/-- The router's weights of the first expert. -/
theorem rd7 (t : Fin (cfgM m hO).N) (k : Fin 1024) :
    (iblk m hO c 7 t : FVec Ideal S1x1x1024 .f32) (ix3 0 0 k) = (args m c).wr (ix2 k (pick (args m c).ea t)) :=
  (congrArg (V m c (Pipeline.arrRef spec0 7)) (emb7 m hO t (pick (args m c).ea t) (ixa m c hO h t) k)).trans (vr m c (pick (args m c).ea t) k)

include h in
/-- The router's weights of the second expert. -/
theorem rd8 (t : Fin (cfgM m hO).N) (k : Fin 1024) :
    (iblk m hO c 8 t : FVec Ideal S1x1x1024 .f32) (ix3 0 0 k) = (args m c).wr (ix2 k (pick (args m c).eb t)) :=
  (congrArg (V m c (Pipeline.arrRef spec0 7)) (emb8 m hO t (pick (args m c).eb t) (ixb m c hO h t) k)).trans (vr m c (pick (args m c).eb t) k)

/-! ## A tile's values -/

/-- A tile's blocks. -/
abbrev xB (t : Fin (cfgM m hO).N) : FVec Ideal S256x1024 .f32 := iblk m hO c 0 t
abbrev gA (t : Fin (cfgM m hO).N) : FVec Ideal S1x1024x512 .bf16 := iblk m hO c 1 t
abbrev uA (t : Fin (cfgM m hO).N) : FVec Ideal S1x1024x512 .bf16 := iblk m hO c 2 t
abbrev dA (t : Fin (cfgM m hO).N) : FVec Ideal S1x512x1024 .bf16 := iblk m hO c 3 t
abbrev gB (t : Fin (cfgM m hO).N) : FVec Ideal S1x1024x512 .bf16 := iblk m hO c 4 t
abbrev uB (t : Fin (cfgM m hO).N) : FVec Ideal S1x1024x512 .bf16 := iblk m hO c 5 t
abbrev dB (t : Fin (cfgM m hO).N) : FVec Ideal S1x512x1024 .bf16 := iblk m hO c 6 t
abbrev rA (t : Fin (cfgM m hO).N) : FVec Ideal S1x1x1024 .f32 := iblk m hO c 7 t
abbrev rB (t : Fin (cfgM m hO).N) : FVec Ideal S1x1x1024 .f32 := iblk m hO c 8 t

/-- What the kernel stores of a used tile, from its blocks. -/
abbrev body (x : FVec Ideal S256x1024 .f32) (ga ua : FVec Ideal S1x1024x512 .bf16) (da : FVec Ideal S1x512x1024 .bf16)
    (gb ub : FVec Ideal S1x1024x512 .bf16) (db : FVec Ideal S1x512x1024 .bf16) (ra rb : FVec Ideal S1x1x1024 .f32) : FVec Ideal S256x1024 .f32 :=
  k0_pay9 (F := Ideal) (k0_pay2 x) (k0_pay4 x ra rb) (k0_pay5 x ra rb) (k0_pay6 x ga) (k0_pay7 x ga) k0_pay8 ua da gb ub db

theorem body_congr {x x' : FVec Ideal S256x1024 .f32} {ga ga' ua ua' : FVec Ideal S1x1024x512 .bf16} {da da' : FVec Ideal S1x512x1024 .bf16}
    {gb gb' ub ub' : FVec Ideal S1x1024x512 .bf16} {db db' : FVec Ideal S1x512x1024 .bf16} {ra ra' rb rb' : FVec Ideal S1x1x1024 .f32}
    (hx : x = x') (h1 : ga = ga') (h2 : ua = ua') (h3 : da = da') (h4 : gb = gb') (h5 : ub = ub') (h6 : db = db') (h7 : ra = ra') (h8 : rb = rb') :
    body x ga ua da gb ub db ra rb = body x' ga' ua' da' gb' ub' db' ra' rb' := by
  subst hx h1 h2 h3 h4 h5 h6 h7 h8
  rfl

include h in
/-- The difference of a row's two logits. -/
theorem dl_at (t : Fin (cfgM m hO).N) (hu : (args m c).used t) (r : Fin 256) :
    k0_pay3 (F := Ideal) (xB m c hO t) (rA m c hO t) (rB m c hO t) (ix2 r 0)
      = (args m c).dl (tok t r) (pick (args m c).ea t) (pick (args m c).eb t) := by
  pointwise [k0_pay3, k0_pay2]
  simp only [xB, rA, rB, rd0 m c hO t hu, rd7 m c hO h t, rd8 m c hO h t, Args.dl]

include h in
/-- The two shares of a row. -/
theorem wa_at (t : Fin (cfgM m hO).N) (hu : (args m c).used t) (r : Fin 256) :
    k0_pay4 (F := Ideal) (xB m c hO t) (rA m c hO t) (rB m c hO t) (ix2 r 0)
      = sg ((args m c).dl (tok t r) (pick (args m c).ea t) (pick (args m c).eb t)) := by
  have e := dl_at m c hO h t hu r
  pointwise [k0_pay4]
  rw [e, zero_sub, sg]

include h in
theorem wb_at (t : Fin (cfgM m hO).N) (hu : (args m c).used t) (r : Fin 256) :
    k0_pay5 (F := Ideal) (xB m c hO t) (rA m c hO t) (rB m c hO t) (ix2 r 0)
      = sg (-(args m c).dl (tok t r) (pick (args m c).ea t) (pick (args m c).eb t)) := by
  have e := dl_at m c hO h t hu r
  pointwise [k0_pay5]
  rw [e, zero_sub, zero_sub, sg]

include h in
/-- What a used tile becomes. -/
theorem mix_at (t : Fin (cfgM m hO).N) (hu : (args m c).used t) (r : Fin 256) (k : Fin 1024) :
    body (xB m c hO t) (gA m c hO t) (uA m c hO t) (dA m c hO t) (gB m c hO t) (uB m c hO t) (dB m c hO t) (rA m c hO t) (rB m c hO t) (ix2 r k)
      = (args m c).mix t (tok t r) k := by
  have ea := wa_at m c hO h t hu r
  have eb := wb_at m c hO h t hu r
  unfold body
  generalize k0_pay4 (F := Ideal) (xB m c hO t) (rA m c hO t) (rB m c hO t) = pa at ea ⊢
  generalize k0_pay5 (F := Ideal) (xB m c hO t) (rA m c hO t) (rB m c hO t) = pb at eb ⊢
  pointwise [k0_pay9, k0_pay2, k0_pay6, k0_pay7, k0_pay8]
  simp only [ea, eb, xB, gA, uA, dA, gB, uB, dB, rd0 m c hO t hu, rd1 m c hO h t, rd2 m c hO h t, rd3 m c hO h t, rd4 m c hO h t, rd5 m c hO h t, rd6 m c hO h t,
    zero_sub, Args.mix, Args.ffn, Args.gate, Args.up, sg]

/-! ## The result -/

/-- The kernel's test of a tile. -/
theorem test_iff (t : Fin (cfgM m hO).N) :
    cond0_0 (grid0.coords t) (tbM0_2.view.readAt (Elt Ideal) (Rect.unit (s := S1) ![0] S1.size inb_S1_S1_0).toLoadRect (tbl m 2) (Shape.Idx.first (numel1_S1.symm ▸ Nat.one_pos)))
      ↔ (args m c).used t := by
  have e : (tbM0_2.view.readAt (Elt Ideal) (Rect.unit (s := S1) ![0] S1.size inb_S1_S1_0).toLoadRect (tbl m 2) (Shape.Idx.first (numel1_S1.symm ▸ Nat.one_pos)) : BitVec 32)
      = (args m c).nu (ix1 0) := (at2 (tbl m)).trans (by rw [tn_eq m c])
  have hb : ∀ b : BitVec 1, (Scalar.cmpi .ne (Scalar.extui b : BitVec 32) 0#32 = 1#1) ↔ b = 1#1 := by decide
  have hc : (grid0.coords t 0).val = t.val := congrArg Fin.val (coords t)
  exact (hb _).trans (by rw [e, hc]; exact Cert.ExpertsSpec.lt_word t _)

include h in
/-- What the kernel leaves of each tile. -/
theorem tile_at (t : Fin (cfgM m hO).N) (r : Fin 256) (k : Fin 1024) :
    outsAt0 m hO c t (ix2 r k) = (args m c).out (tok t r) k := by
  have ht : Cert.ExpertsSpec.tile (tok t r) = t := Fin.ext (by show (t.val * 256 + r.val) / 256 = t.val; omega)
  by_cases hu : (args m c).used t
  · rw [outsAt0_A m hO c t ((test_iff m c hO t).mpr hu)]
    refine Eq.trans ?_ ((mix_at m c hO h t hu r k).trans ?_)
    · frame_out
      refine congrFun (body_congr ?_ ?_ ?_ ?_ ?_ ?_ ?_ ?_ ?_) _ <;> exact Memref.IsWhole.read_unread _ _
    · rw [Args.out, ht, if_pos hu]
  · rw [outsAt0_B m hO c t fun e => hu ((test_iff m c hO t).mp e)]
    refine Eq.trans ?_ (?_ : k0_pay1 (F := Ideal) (ix2 r k) = _)
    · frame_out
    · rw [Args.out, ht, if_neg hu]
      pointwise [k0_pay1]

include h in
/-- The result's array after the whole grid. -/
theorem final9 : (dats m hO 0 c).arrAt 9 (cfgM m hO).N = (args m c).OUT := by
  refine (dats m hO 0 c).arrAt_eq_of_covers 9 _ (covers9 m hO) fun t hf y => ?_
  have key : ∀ y : S256x1024.Idx, outsAt0 m hO c t y = (args m c).OUT ((((cfgM m hO).win 9).blk t).view.emb y) := by
    intro y
    idx_vars y
    rw [emb9 m hO t y0 y1]
    exact tile_at m c hO h t y0 y1
  blk_simp
  rw [after0_9]
  exact key y

/-- A run of the kernel leaves the result. -/
theorem run (g : Dev nD → PrngReg) (h : ∀ c, (args m c).Ok) : θ_run defs (onTc (τ := τ) (main (F := Ideal))) ⟨m, fun _ => 0, g⟩ (fun r => ∀ c : Dev nD,
    r.2.mem ((c.tc : Thread nD τ).loc main_v7) = (args m c).OUT) :=
  θ_run_mono (run_main m g (ok m (h 0))) fun r e c => ((e c).1 9).trans (final9 m c (ok m (h 0)) (h c))

end Cert.ExpertsIdeal.Value

end
-- ==== Proof.lean ====
/- The proof of the claims: each program's facts and frames, and the values of the kernels against their references. -/
module

public import proofs.«01_k».proof.Defs
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Final
public import proofs.«01_k».proof.Proof.Gen.Final.Frame
public import proofs.«01_k».proof.Proof.Gen.FinalIdeal
public import proofs.«01_k».proof.Proof.Gen.FinalIdeal.Frame
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.OutRefIdeal.Run
public import proofs.«01_k».proof.Proof.Gen.OutRefIdeal.Read
public import proofs.«01_k».proof.Proof.Gen.Experts
public import proofs.«01_k».proof.Proof.Gen.ExpertsIdeal
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.FinalValue
public import proofs.«01_k».proof.Proof.ConvValue
public import proofs.«01_k».proof.Proof.ProjValue
public import proofs.«01_k».proof.Proof.OutValue
public import proofs.«01_k».proof.Proof.AdaValue
public import proofs.«01_k».proof.Proof.Gen.Experts.Skeleton
public import proofs.«01_k».proof.Proof.Gen.Experts.Launch
public import proofs.«01_k».proof.Proof.Gen.Experts.Points
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.Pre_tables
public import proofs.«01_k».proof.Proof.ExpertsValue
public import proofs.«01_k».proof.Proof.ExpertsFrame
public import Idealize.ShloMosaic.Lib.Claim
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Proof

open Idealize.ShloMosaic Idealize.SL.Sem

/-- The kernel `Ada` ends, leaves its arguments as they were and every counter at zero. -/
theorem quiescent_Ada : Cert.quiescent_Ada := fun m ρ _ => Cert.Ada.Gen.frame m ρ

/-- The same of its reading over the extended reals. -/
theorem quiescent_AdaIdeal : Cert.quiescent_AdaIdeal := fun m ρ _ => Cert.AdaIdeal.Gen.frame m ρ

/-- The reference of `Ada` ends and leaves its arguments as they were. -/
theorem quiescent_AdaRefIdeal : Cert.quiescent_AdaRefIdeal := by
  intro m g _
  exact (θ_run _ _ _).mono (fun r h => ⟨fun c => (h c).2, sem_eq_zero_of_no_sems rfl _⟩) (Cert.AdaRefIdeal.Value.run m g)

/-- The kernel `Final` ends, leaves its arguments as they were and every counter at zero. -/
theorem quiescent_Final : Cert.quiescent_Final := fun m ρ _ => Cert.Final.Gen.frame m ρ

/-- The same of its reading over the extended reals. -/
theorem quiescent_FinalIdeal : Cert.quiescent_FinalIdeal := fun m ρ _ => Cert.FinalIdeal.Gen.frame m ρ

/-- The reference of `Final` ends and leaves its arguments as they were. -/
theorem quiescent_FinalRefIdeal : Cert.quiescent_FinalRefIdeal := by
  intro m g _
  exact (θ_run _ _ _).mono (fun r h => ⟨fun c => (h c).2, sem_eq_zero_of_no_sems rfl _⟩) (Cert.FinalRefIdeal.Value.run m g)

/-- The kernel `Conv` ends, leaves its arguments as they were and every counter at zero. -/
theorem quiescent_Conv : Cert.quiescent_Conv := fun m ρ _ => Cert.Conv.Gen.frame m ρ

/-- The same of its reading over the extended reals. -/
theorem quiescent_ConvIdeal : Cert.quiescent_ConvIdeal := fun m ρ _ => Cert.ConvIdeal.Gen.frame m ρ

/-- The reference of `Conv` ends and leaves its arguments as they were. -/
theorem quiescent_ConvRefIdeal : Cert.quiescent_ConvRefIdeal := by
  intro m g _
  exact (θ_run _ _ _).mono (fun r h => ⟨fun c => (h c).2.2, sem_eq_zero_of_no_sems rfl _⟩) (Cert.ConvRefIdeal.Value.run m g)

/-- The kernel `Proj` ends, leaves its arguments as they were and every counter at zero. -/
theorem quiescent_Proj : Cert.quiescent_Proj := fun m ρ _ => Cert.Proj.Gen.frame m ρ

/-- The same of its reading over the extended reals. -/
theorem quiescent_ProjIdeal : Cert.quiescent_ProjIdeal := fun m ρ _ => Cert.ProjIdeal.Gen.frame m ρ

/-- The reference of `Proj` ends and leaves its arguments as they were. -/
theorem quiescent_ProjRefIdeal : Cert.quiescent_ProjRefIdeal := by
  intro m g _
  exact (θ_run _ _ _).mono (fun r h => ⟨fun c => (h c).2.2.2.2, sem_eq_zero_of_no_sems rfl _⟩) (Cert.ProjRefIdeal.Value.run m g)

/-- The kernel `Out` ends, leaves its arguments as they were and every counter at zero. -/
theorem quiescent_Out : Cert.quiescent_Out := fun m ρ _ => Cert.Out.Gen.frame m ρ

/-- The same of its reading over the extended reals. -/
theorem quiescent_OutIdeal : Cert.quiescent_OutIdeal := fun m ρ _ => Cert.OutIdeal.Gen.frame m ρ

/-- The reference of `Out` ends and leaves its arguments as they were. -/
theorem quiescent_OutRefIdeal : Cert.quiescent_OutRefIdeal := by
  intro m g _
  exact (θ_run _ _ _).mono (fun r h => ⟨fun c => (h c).2.2, sem_eq_zero_of_no_sems rfl _⟩) (Cert.OutRefIdeal.Value.run m g)

/-- The experts' kernel ends, leaves its arguments as they were and every counter at zero, when the tables name experts. -/
theorem quiescent_Experts : Cert.quiescent_Experts := fun m ρ h =>
  have t := (Cert.ExpertsSpec.tables (F := Bits) (h 0)).1
  Cert.Experts.Region.frame m ρ (Cert.Experts.Region.ok_args m t.1 t.2.1 t.2.2)

/-- The same of its reading over the extended reals. -/
theorem quiescent_ExpertsIdeal : Cert.quiescent_ExpertsIdeal := fun m ρ h =>
  Cert.ExpertsIdeal.Region.frame m ρ (Cert.ExpertsIdeal.Value.ok m (Cert.ExpertsSpec.ok (Cert.ExpertsIdeal.Value.args m 0) (h 0)))

/-- The reference of `Experts` ends and leaves its arguments as they were. -/
theorem quiescent_ExpertsRefIdeal : Cert.quiescent_ExpertsRefIdeal := by
  intro m g _
  exact (θ_run _ _ _).mono (fun r h => ⟨fun c => (h c).2, sem_eq_zero_of_no_sems rfl _⟩) (Cert.ExpertsRefIdeal.Value.run m g)

/-- The idealized final norm is the printed kernel's own reading. -/
theorem preserves_Final_FinalIdeal : Cert.preserves_Final_FinalIdeal := trivial

/-- The final norm's kernel and its reference leave the same result. -/
theorem algebraic_FinalIdeal_FinalRefIdeal : Cert.algebraic_FinalIdeal_FinalRefIdeal := by
  pair_intro
  · run_from Cert.FinalIdeal.Gen.run_main m g
  · run_from Cert.FinalRefIdeal.Value.run m' g'
    exact (Cert.FinalIdeal.Value.final m c).symm

/-- The idealized convolution layer is the printed kernel's own reading. -/
theorem preserves_Conv_ConvIdeal : Cert.preserves_Conv_ConvIdeal := trivial

/-- The convolution layer's kernel and its reference leave the same residual stream and experts' input. -/
theorem algebraic_ConvIdeal_ConvRefIdeal : Cert.algebraic_ConvIdeal_ConvRefIdeal := by
  intro m g m' g' _ hagree
  refine ⟨fun c => (Cert.ConvIdeal.Value.args m c).OUT, fun c => (Cert.ConvIdeal.Value.args m c).NXT,
    θ_run_mono (θ_run_and (Cert.ConvIdeal.Value.run m g) (Cert.ConvIdeal.Gen.unchanged m g)) fun r h c => ⟨(h.1 c).1, (h.1 c).2, h.2 c⟩,
    θ_run_mono (Cert.ConvRefIdeal.Value.run m' g') fun r h c => ?_⟩
  have e : Cert.ConvSpec.refArgs m' c = Cert.ConvIdeal.Value.args m c := by
    obtain ⟨a0, a1, a2, a3, a4, a5, a6, a7, a8, a9, -⟩ := hagree c
    rw [Cert.ConvSpec.Args.mk.injEq]
    exact ⟨a0, a1, a2, a3, a4, a5, a6, a7, a8, a9⟩
  refine ⟨(h c).1.trans ?_, (h c).2.1.trans ?_, (h c).2.2⟩
  · rw [Cert.ConvSpec.ref_OUT, e]
  · rw [Cert.ConvSpec.ref_NXT, e]

/-- The idealized projection is the printed kernel's own reading. -/
theorem preserves_Proj_ProjIdeal : Cert.preserves_Proj_ProjIdeal := trivial

/-- The projection's kernel and its reference leave the same queries, keys, values and output gate. -/
theorem algebraic_ProjIdeal_ProjRefIdeal : Cert.algebraic_ProjIdeal_ProjRefIdeal := by
  intro m g m' g' hpre hagree
  refine ⟨fun c => (Cert.ProjIdeal.Value.args m c).QRY, fun c => (Cert.ProjIdeal.Value.args m c).KEY, fun c => (Cert.ProjIdeal.Value.args m c).VLS, fun c => (Cert.ProjIdeal.Value.args m c).GATE,
    θ_run_mono (θ_run_and (Cert.ProjIdeal.Value.run m g) (Cert.ProjIdeal.Gen.unchanged m g)) fun r h c => ⟨(h.1 c).1, (h.1 c).2.1, (h.1 c).2.2.1, (h.1 c).2.2.2, h.2 c⟩,
    θ_run_mono (θ_run_and (Cert.ProjSpec.run m' g') (Cert.ProjRefIdeal.Value.run m' g')) fun r h c => ?_⟩
  have e : Cert.ProjSpec.refArgs m' c = Cert.ProjIdeal.Value.args m c := by
    obtain ⟨a0, a1, a2, a3, -⟩ := hagree c
    rw [Cert.ProjSpec.Args.mk.injEq]
    exact ⟨a0, a1, a2, a3⟩
  exact ⟨((h.1 c).1).trans (congrArg Cert.ProjSpec.Args.QRY e), ((h.1 c).2.1).trans (congrArg Cert.ProjSpec.Args.KEY e), ((h.1 c).2.2.1).trans (congrArg Cert.ProjSpec.Args.VLS e), ((h.1 c).2.2.2).trans (congrArg Cert.ProjSpec.Args.GATE e), (h.2 c).2.2.2.2⟩

/-- The idealized modulation kernel is the printed kernel's own reading. -/
theorem preserves_Ada_AdaIdeal : Cert.preserves_Ada_AdaIdeal := trivial

/-- The modulation's kernel and its reference leave the same array. -/
theorem algebraic_AdaIdeal_AdaRefIdeal : Cert.algebraic_AdaIdeal_AdaRefIdeal := by
  intro m g m' g' hpre hagree
  refine ⟨fun c => (Cert.AdaIdeal.Value.args m c).MOD,
    θ_run_mono (θ_run_and (Cert.AdaIdeal.Value.run m g) (Cert.AdaIdeal.Gen.unchanged m g)) fun r h c => ⟨h.1 c, h.2 c⟩,
    θ_run_mono (θ_run_and (Cert.AdaSpec.run m' g') (Cert.AdaRefIdeal.Value.run m' g')) fun r h c => ?_⟩
  have e : Cert.AdaSpec.refArgs m' c = Cert.AdaIdeal.Value.args m c := by
    obtain ⟨a0, a1, a2⟩ := hagree c
    rw [Cert.AdaSpec.Args.mk.injEq]
    exact ⟨a0, a1, a2⟩
  exact ⟨(h.1 c).trans (congrArg Cert.AdaSpec.Args.MOD e), (h.2 c).2⟩

/-- The idealized output layer is the printed kernel's own reading. -/
theorem preserves_Out_OutIdeal : Cert.preserves_Out_OutIdeal := trivial

/-- The output layer's kernel and its reference leave the same residual stream and experts' input. -/
theorem algebraic_OutIdeal_OutRefIdeal : Cert.algebraic_OutIdeal_OutRefIdeal := by
  intro m g m' g' hpre hagree
  refine ⟨fun c => (Cert.OutIdeal.Value.args m c).OUT, fun c => (Cert.OutIdeal.Value.args m c).NXT,
    θ_run_mono (θ_run_and (Cert.OutIdeal.Value.run m g) (Cert.OutIdeal.Gen.unchanged m g)) fun r h c => ⟨(h.1 c).1, (h.1 c).2, h.2 c⟩,
    θ_run_mono (θ_run_and (Cert.OutSpec.run m' g') (Cert.OutRefIdeal.Value.run m' g')) fun r h c => ?_⟩
  have e : Cert.OutSpec.refArgs m' c = Cert.OutIdeal.Value.args m c := by
    obtain ⟨a0, a1, a2, a3, a4, -⟩ := hagree c
    rw [Cert.OutSpec.Args.mk.injEq]
    exact ⟨a0, a1, a2, a3, a4⟩
  exact ⟨((h.1 c).1).trans (congrArg Cert.OutSpec.Args.OUT e), ((h.1 c).2).trans (congrArg Cert.OutSpec.Args.NXT e), (h.2 c).2.2⟩

/-- The idealized experts' kernel is the printed kernel's own reading. -/
theorem preserves_Experts_ExpertsIdeal : Cert.preserves_Experts_ExpertsIdeal := trivial

/-- The experts' kernel and its reference leave the same rows. -/
theorem algebraic_ExpertsIdeal_ExpertsRefIdeal : Cert.algebraic_ExpertsIdeal_ExpertsRefIdeal := by
  intro m g m' g' hpre hagree
  have hok (c : Dev Cert.ExpertsIdeal.nD) : (Cert.ExpertsIdeal.Value.args m c).Ok := Cert.ExpertsSpec.ok _ (hpre c)
  have e (c : Dev Cert.ExpertsIdeal.nD) : Cert.ExpertsSpec.refArgs m' c = Cert.ExpertsIdeal.Value.args m c := by
    obtain ⟨a0, a1, a2, a3, a4, a5, a6, a7⟩ := hagree c
    rw [Cert.ExpertsSpec.Args.mk.injEq]
    exact ⟨a0, a1, a2, a3, a4, a5, a6, a7⟩
  refine ⟨fun c => (Cert.ExpertsIdeal.Value.args m c).OUT,
    θ_run_mono (θ_run_and (Cert.ExpertsIdeal.Value.run m g hok) (Cert.ExpertsIdeal.Region.unchanged m g (Cert.ExpertsIdeal.Value.ok m (hok 0)))) fun r h c => ⟨(h.1 c), h.2 c⟩,
    θ_run_mono (θ_run_and (Cert.ExpertsSpec.run m' g' fun c => (e c).symm ▸ hok c) (Cert.ExpertsRefIdeal.Value.run m' g')) fun r h c => ?_⟩
  exact ⟨((h.1 c)).trans (congrArg Cert.ExpertsSpec.Args.OUT (e c)), (h.2 c).2⟩

/-- Every claim. -/
theorem claim : Cert.Claim :=
  ⟨Cert.Final.Gen.facts, Cert.FinalIdeal.Gen.facts, Cert.FinalRefIdeal.Gen.facts, Cert.Conv.Gen.facts, Cert.ConvIdeal.Gen.facts, Cert.ConvRefIdeal.Gen.facts, Cert.Proj.Gen.facts, Cert.ProjIdeal.Gen.facts, Cert.ProjRefIdeal.Gen.facts, Cert.Out.Gen.facts, Cert.OutIdeal.Gen.facts, Cert.OutRefIdeal.Gen.facts, Cert.Experts.Gen.facts, Cert.ExpertsIdeal.Gen.facts, Cert.ExpertsRefIdeal.Gen.facts, Cert.Ada.Gen.facts, Cert.AdaIdeal.Gen.facts, Cert.AdaRefIdeal.Gen.facts, Cert.Pre_tables.Gen.facts,
   quiescent_Final,
   quiescent_FinalIdeal,
   quiescent_FinalRefIdeal,
   quiescent_Conv,
   quiescent_ConvIdeal,
   quiescent_ConvRefIdeal,
   quiescent_Proj,
   quiescent_ProjIdeal,
   quiescent_ProjRefIdeal,
   quiescent_Out,
   quiescent_OutIdeal,
   quiescent_OutRefIdeal,
   quiescent_Experts,
   quiescent_ExpertsIdeal,
   quiescent_ExpertsRefIdeal,
   quiescent_Ada,
   quiescent_AdaIdeal,
   quiescent_AdaRefIdeal,
   preserves_Final_FinalIdeal,
   algebraic_FinalIdeal_FinalRefIdeal,
   preserves_Conv_ConvIdeal,
   algebraic_ConvIdeal_ConvRefIdeal,
   preserves_Proj_ProjIdeal,
   algebraic_ProjIdeal_ProjRefIdeal,
   preserves_Out_OutIdeal,
   algebraic_OutIdeal_OutRefIdeal,
   preserves_Experts_ExpertsIdeal,
   algebraic_ExpertsIdeal_ExpertsRefIdeal,
   preserves_Ada_AdaIdeal,
   algebraic_AdaIdeal_AdaRefIdeal⟩

end Cert.Proof

end
